-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S32x1x1024 : Shape := ⟨3, ![32, 1, 1024]⟩
abbrev S32 : Shape := ⟨1, ![32]⟩
abbrev S_ : Shape := ⟨0, ![]⟩
abbrev S1024 : Shape := ⟨1, ![1024]⟩
abbrev S1 : Shape := ⟨1, ![1]⟩
abbrev S1x1x1024 : Shape := ⟨3, ![1, 1, 1024]⟩
abbrev S256x256 : Shape := ⟨2, ![256, 256]⟩
abbrev S256x1024 : Shape := ⟨2, ![256, 1024]⟩
abbrev S32x1024 : Shape := ⟨2, ![32, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024, .f32⟩
  | .local _ .vmem, ⟨4, _⟩ => ⟨S32x1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_340 : BitVec 32 := 0#32
  let c0_i32_338 : BitVec 32 := 0#32
  let c1_i32_339 : BitVec 32 := 1#32
  let v578 : BitVec 32 := Scalar.muli c0_i32_338 c1_i32_339
  let v579 : BitVec 32 := Scalar.addi c0_i32_340 v578
  v579.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_340 : BitVec 32 := 0#32
  let c1_i32_338 : BitVec 32 := 1#32
  let c1_i32_339 : BitVec 32 := 1#32
  let v578 : BitVec 32 := Scalar.muli c1_i32_338 c1_i32_339
  let v579 : BitVec 32 := Scalar.addi c0_i32_340 v578
  v579.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_340 : BitVec 32 := 0#32
  let c2_i32_338 : BitVec 32 := 2#32
  let c1_i32_339 : BitVec 32 := 1#32
  let v578 : BitVec 32 := Scalar.muli c2_i32_338 c1_i32_339
  let v579 : BitVec 32 := Scalar.addi c0_i32_340 v578
  v579.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .sgt v2 c3_i32
  let v14 : BitVec 32 := Scalar.extui v13
  let c0_i32_4 : BitVec 32 := 0#32
  let v15 : BitVec 1 := Scalar.cmpi .ne v14 c0_i32_4
  v15

def k0_dev4 : Nat :=
  let c0_i32_340 : BitVec 32 := 0#32
  let c3_i32_338 : BitVec 32 := 3#32
  let c1_i32_339 : BitVec 32 := 1#32
  let v578 : BitVec 32 := Scalar.muli c3_i32_338 c1_i32_339
  let v579 : BitVec 32 := Scalar.addi c0_i32_340 v578
  v579.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .sgt v2 c4_i32
  let v17 : BitVec 32 := Scalar.extui v16
  let c0_i32_5 : BitVec 32 := 0#32
  let v18 : BitVec 1 := Scalar.cmpi .ne v17 c0_i32_5
  v18

def k0_dev5 : Nat :=
  let c0_i32_340 : BitVec 32 := 0#32
  let c4_i32_338 : BitVec 32 := 4#32
  let c1_i32_339 : BitVec 32 := 1#32
  let v578 : BitVec 32 := Scalar.muli c4_i32_338 c1_i32_339
  let v579 : BitVec 32 := Scalar.addi c0_i32_340 v578
  v579.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .sgt v2 c5_i32
  let v20 : BitVec 32 := Scalar.extui v19
  let c0_i32_6 : BitVec 32 := 0#32
  let v21 : BitVec 1 := Scalar.cmpi .ne v20 c0_i32_6
  v21

def k0_dev6 : Nat :=
  let c0_i32_340 : BitVec 32 := 0#32
  let c5_i32_338 : BitVec 32 := 5#32
  let c1_i32_339 : BitVec 32 := 1#32
  let v578 : BitVec 32 := Scalar.muli c5_i32_338 c1_i32_339
  let v579 : BitVec 32 := Scalar.addi c0_i32_340 v578
  v579.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .sgt v2 c6_i32
  let v23 : BitVec 32 := Scalar.extui v22
  let c0_i32_7 : BitVec 32 := 0#32
  let v24 : BitVec 1 := Scalar.cmpi .ne v23 c0_i32_7
  v24

def k0_dev7 : Nat :=
  let c0_i32_340 : BitVec 32 := 0#32
  let c6_i32_338 : BitVec 32 := 6#32
  let c1_i32_339 : BitVec 32 := 1#32
  let v578 : BitVec 32 := Scalar.muli c6_i32_338 c1_i32_339
  let v579 : BitVec 32 := Scalar.addi c0_i32_340 v578
  v579.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .sgt v2 c7_i32
  let v26 : BitVec 32 := Scalar.extui v25
  let c0_i32_8 : BitVec 32 := 0#32
  let v27 : BitVec 1 := Scalar.cmpi .ne v26 c0_i32_8
  v27

def k0_dev8 : Nat :=
  let c0_i32_340 : BitVec 32 := 0#32
  let c7_i32_338 : BitVec 32 := 7#32
  let c1_i32_339 : BitVec 32 := 1#32
  let v578 : BitVec 32 := Scalar.muli c7_i32_338 c1_i32_339
  let v579 : BitVec 32 := Scalar.addi c0_i32_340 v578
  v579.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .sgt v2 c8_i32
  let v29 : BitVec 32 := Scalar.extui v28
  let c0_i32_9 : BitVec 32 := 0#32
  let v30 : BitVec 1 := Scalar.cmpi .ne v29 c0_i32_9
  v30

def k0_dev9 : Nat :=
  let c0_i32_340 : BitVec 32 := 0#32
  let c8_i32_338 : BitVec 32 := 8#32
  let c1_i32_339 : BitVec 32 := 1#32
  let v578 : BitVec 32 := Scalar.muli c8_i32_338 c1_i32_339
  let v579 : BitVec 32 := Scalar.addi c0_i32_340 v578
  v579.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .sgt v2 c9_i32
  let v32 : BitVec 32 := Scalar.extui v31
  let c0_i32_10 : BitVec 32 := 0#32
  let v33 : BitVec 1 := Scalar.cmpi .ne v32 c0_i32_10
  v33

def k0_dev10 : Nat :=
  let c0_i32_340 : BitVec 32 := 0#32
  let c9_i32_338 : BitVec 32 := 9#32
  let c1_i32_339 : BitVec 32 := 1#32
  let v578 : BitVec 32 := Scalar.muli c9_i32_338 c1_i32_339
  let v579 : BitVec 32 := Scalar.addi c0_i32_340 v578
  v579.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .sgt v2 c10_i32
  let v35 : BitVec 32 := Scalar.extui v34
  let c0_i32_11 : BitVec 32 := 0#32
  let v36 : BitVec 1 := Scalar.cmpi .ne v35 c0_i32_11
  v36

def k0_dev11 : Nat :=
  let c0_i32_340 : BitVec 32 := 0#32
  let c10_i32_338 : BitVec 32 := 10#32
  let c1_i32_339 : BitVec 32 := 1#32
  let v578 : BitVec 32 := Scalar.muli c10_i32_338 c1_i32_339
  let v579 : BitVec 32 := Scalar.addi c0_i32_340 v578
  v579.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .sgt v2 c11_i32
  let v38 : BitVec 32 := Scalar.extui v37
  let c0_i32_12 : BitVec 32 := 0#32
  let v39 : BitVec 1 := Scalar.cmpi .ne v38 c0_i32_12
  v39

def k0_dev12 : Nat :=
  let c0_i32_340 : BitVec 32 := 0#32
  let c11_i32_338 : BitVec 32 := 11#32
  let c1_i32_339 : BitVec 32 := 1#32
  let v578 : BitVec 32 := Scalar.muli c11_i32_338 c1_i32_339
  let v579 : BitVec 32 := Scalar.addi c0_i32_340 v578
  v579.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .sgt v2 c12_i32
  let v41 : BitVec 32 := Scalar.extui v40
  let c0_i32_13 : BitVec 32 := 0#32
  let v42 : BitVec 1 := Scalar.cmpi .ne v41 c0_i32_13
  v42

def k0_dev13 : Nat :=
  let c0_i32_340 : BitVec 32 := 0#32
  let c12_i32_338 : BitVec 32 := 12#32
  let c1_i32_339 : BitVec 32 := 1#32
  let v578 : BitVec 32 := Scalar.muli c12_i32_338 c1_i32_339
  let v579 : BitVec 32 := Scalar.addi c0_i32_340 v578
  v579.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .sgt v2 c13_i32
  let v44 : BitVec 32 := Scalar.extui v43
  let c0_i32_14 : BitVec 32 := 0#32
  let v45 : BitVec 1 := Scalar.cmpi .ne v44 c0_i32_14
  v45

def k0_dev14 : Nat :=
  let c0_i32_340 : BitVec 32 := 0#32
  let c13_i32_338 : BitVec 32 := 13#32
  let c1_i32_339 : BitVec 32 := 1#32
  let v578 : BitVec 32 := Scalar.muli c13_i32_338 c1_i32_339
  let v579 : BitVec 32 := Scalar.addi c0_i32_340 v578
  v579.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .sgt v2 c14_i32
  let v47 : BitVec 32 := Scalar.extui v46
  let c0_i32_15 : BitVec 32 := 0#32
  let v48 : BitVec 1 := Scalar.cmpi .ne v47 c0_i32_15
  v48

def k0_dev15 : Nat :=
  let c0_i32_340 : BitVec 32 := 0#32
  let c14_i32_338 : BitVec 32 := 14#32
  let c1_i32_339 : BitVec 32 := 1#32
  let v578 : BitVec 32 := Scalar.muli c14_i32_338 c1_i32_339
  let v579 : BitVec 32 := Scalar.addi c0_i32_340 v578
  v579.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .sgt v2 c15_i32
  let v50 : BitVec 32 := Scalar.extui v49
  let c0_i32_16 : BitVec 32 := 0#32
  let v51 : BitVec 1 := Scalar.cmpi .ne v50 c0_i32_16
  v51

def k0_dev16 : Nat :=
  let c0_i32_340 : BitVec 32 := 0#32
  let c15_i32_338 : BitVec 32 := 15#32
  let c1_i32_339 : BitVec 32 := 1#32
  let v578 : BitVec 32 := Scalar.muli c15_i32_338 c1_i32_339
  let v579 : BitVec 32 := Scalar.addi c0_i32_340 v578
  v579.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .sgt v2 c16_i32
  let v53 : BitVec 32 := Scalar.extui v52
  let c0_i32_17 : BitVec 32 := 0#32
  let v54 : BitVec 1 := Scalar.cmpi .ne v53 c0_i32_17
  v54

def k0_dev17 : Nat :=
  let c0_i32_340 : BitVec 32 := 0#32
  let c16_i32_338 : BitVec 32 := 16#32
  let c1_i32_339 : BitVec 32 := 1#32
  let v578 : BitVec 32 := Scalar.muli c16_i32_338 c1_i32_339
  let v579 : BitVec 32 := Scalar.addi c0_i32_340 v578
  v579.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .sgt v2 c17_i32
  let v56 : BitVec 32 := Scalar.extui v55
  let c0_i32_18 : BitVec 32 := 0#32
  let v57 : BitVec 1 := Scalar.cmpi .ne v56 c0_i32_18
  v57

def k0_dev18 : Nat :=
  let c0_i32_340 : BitVec 32 := 0#32
  let c17_i32_338 : BitVec 32 := 17#32
  let c1_i32_339 : BitVec 32 := 1#32
  let v578 : BitVec 32 := Scalar.muli c17_i32_338 c1_i32_339
  let v579 : BitVec 32 := Scalar.addi c0_i32_340 v578
  v579.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .sgt v2 c18_i32
  let v59 : BitVec 32 := Scalar.extui v58
  let c0_i32_19 : BitVec 32 := 0#32
  let v60 : BitVec 1 := Scalar.cmpi .ne v59 c0_i32_19
  v60

def k0_dev19 : Nat :=
  let c0_i32_340 : BitVec 32 := 0#32
  let c18_i32_338 : BitVec 32 := 18#32
  let c1_i32_339 : BitVec 32 := 1#32
  let v578 : BitVec 32 := Scalar.muli c18_i32_338 c1_i32_339
  let v579 : BitVec 32 := Scalar.addi c0_i32_340 v578
  v579.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .sgt v2 c19_i32
  let v62 : BitVec 32 := Scalar.extui v61
  let c0_i32_20 : BitVec 32 := 0#32
  let v63 : BitVec 1 := Scalar.cmpi .ne v62 c0_i32_20
  v63

def k0_dev20 : Nat :=
  let c0_i32_340 : BitVec 32 := 0#32
  let c19_i32_338 : BitVec 32 := 19#32
  let c1_i32_339 : BitVec 32 := 1#32
  let v578 : BitVec 32 := Scalar.muli c19_i32_338 c1_i32_339
  let v579 : BitVec 32 := Scalar.addi c0_i32_340 v578
  v579.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .sgt v2 c20_i32
  let v65 : BitVec 32 := Scalar.extui v64
  let c0_i32_21 : BitVec 32 := 0#32
  let v66 : BitVec 1 := Scalar.cmpi .ne v65 c0_i32_21
  v66

def k0_dev21 : Nat :=
  let c0_i32_340 : BitVec 32 := 0#32
  let c20_i32_338 : BitVec 32 := 20#32
  let c1_i32_339 : BitVec 32 := 1#32
  let v578 : BitVec 32 := Scalar.muli c20_i32_338 c1_i32_339
  let v579 : BitVec 32 := Scalar.addi c0_i32_340 v578
  v579.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .sgt v2 c21_i32
  let v68 : BitVec 32 := Scalar.extui v67
  let c0_i32_22 : BitVec 32 := 0#32
  let v69 : BitVec 1 := Scalar.cmpi .ne v68 c0_i32_22
  v69

def k0_dev22 : Nat :=
  let c0_i32_340 : BitVec 32 := 0#32
  let c21_i32_338 : BitVec 32 := 21#32
  let c1_i32_339 : BitVec 32 := 1#32
  let v578 : BitVec 32 := Scalar.muli c21_i32_338 c1_i32_339
  let v579 : BitVec 32 := Scalar.addi c0_i32_340 v578
  v579.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .sgt v2 c22_i32
  let v71 : BitVec 32 := Scalar.extui v70
  let c0_i32_23 : BitVec 32 := 0#32
  let v72 : BitVec 1 := Scalar.cmpi .ne v71 c0_i32_23
  v72

def k0_dev23 : Nat :=
  let c0_i32_340 : BitVec 32 := 0#32
  let c22_i32_338 : BitVec 32 := 22#32
  let c1_i32_339 : BitVec 32 := 1#32
  let v578 : BitVec 32 := Scalar.muli c22_i32_338 c1_i32_339
  let v579 : BitVec 32 := Scalar.addi c0_i32_340 v578
  v579.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .sgt v2 c23_i32
  let v74 : BitVec 32 := Scalar.extui v73
  let c0_i32_24 : BitVec 32 := 0#32
  let v75 : BitVec 1 := Scalar.cmpi .ne v74 c0_i32_24
  v75

def k0_dev24 : Nat :=
  let c0_i32_340 : BitVec 32 := 0#32
  let c23_i32_338 : BitVec 32 := 23#32
  let c1_i32_339 : BitVec 32 := 1#32
  let v578 : BitVec 32 := Scalar.muli c23_i32_338 c1_i32_339
  let v579 : BitVec 32 := Scalar.addi c0_i32_340 v578
  v579.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .sgt v2 c24_i32
  let v77 : BitVec 32 := Scalar.extui v76
  let c0_i32_25 : BitVec 32 := 0#32
  let v78 : BitVec 1 := Scalar.cmpi .ne v77 c0_i32_25
  v78

def k0_dev25 : Nat :=
  let c0_i32_340 : BitVec 32 := 0#32
  let c24_i32_338 : BitVec 32 := 24#32
  let c1_i32_339 : BitVec 32 := 1#32
  let v578 : BitVec 32 := Scalar.muli c24_i32_338 c1_i32_339
  let v579 : BitVec 32 := Scalar.addi c0_i32_340 v578
  v579.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .sgt v2 c25_i32
  let v80 : BitVec 32 := Scalar.extui v79
  let c0_i32_26 : BitVec 32 := 0#32
  let v81 : BitVec 1 := Scalar.cmpi .ne v80 c0_i32_26
  v81

def k0_dev26 : Nat :=
  let c0_i32_340 : BitVec 32 := 0#32
  let c25_i32_338 : BitVec 32 := 25#32
  let c1_i32_339 : BitVec 32 := 1#32
  let v578 : BitVec 32 := Scalar.muli c25_i32_338 c1_i32_339
  let v579 : BitVec 32 := Scalar.addi c0_i32_340 v578
  v579.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .sgt v2 c26_i32
  let v83 : BitVec 32 := Scalar.extui v82
  let c0_i32_27 : BitVec 32 := 0#32
  let v84 : BitVec 1 := Scalar.cmpi .ne v83 c0_i32_27
  v84

def k0_dev27 : Nat :=
  let c0_i32_340 : BitVec 32 := 0#32
  let c26_i32_338 : BitVec 32 := 26#32
  let c1_i32_339 : BitVec 32 := 1#32
  let v578 : BitVec 32 := Scalar.muli c26_i32_338 c1_i32_339
  let v579 : BitVec 32 := Scalar.addi c0_i32_340 v578
  v579.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .sgt v2 c27_i32
  let v86 : BitVec 32 := Scalar.extui v85
  let c0_i32_28 : BitVec 32 := 0#32
  let v87 : BitVec 1 := Scalar.cmpi .ne v86 c0_i32_28
  v87

def k0_dev28 : Nat :=
  let c0_i32_340 : BitVec 32 := 0#32
  let c27_i32_338 : BitVec 32 := 27#32
  let c1_i32_339 : BitVec 32 := 1#32
  let v578 : BitVec 32 := Scalar.muli c27_i32_338 c1_i32_339
  let v579 : BitVec 32 := Scalar.addi c0_i32_340 v578
  v579.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .sgt v2 c28_i32
  let v89 : BitVec 32 := Scalar.extui v88
  let c0_i32_29 : BitVec 32 := 0#32
  let v90 : BitVec 1 := Scalar.cmpi .ne v89 c0_i32_29
  v90

def k0_dev29 : Nat :=
  let c0_i32_340 : BitVec 32 := 0#32
  let c28_i32_338 : BitVec 32 := 28#32
  let c1_i32_339 : BitVec 32 := 1#32
  let v578 : BitVec 32 := Scalar.muli c28_i32_338 c1_i32_339
  let v579 : BitVec 32 := Scalar.addi c0_i32_340 v578
  v579.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .sgt v2 c29_i32
  let v92 : BitVec 32 := Scalar.extui v91
  let c0_i32_30 : BitVec 32 := 0#32
  let v93 : BitVec 1 := Scalar.cmpi .ne v92 c0_i32_30
  v93

def k0_dev30 : Nat :=
  let c0_i32_340 : BitVec 32 := 0#32
  let c29_i32_338 : BitVec 32 := 29#32
  let c1_i32_339 : BitVec 32 := 1#32
  let v578 : BitVec 32 := Scalar.muli c29_i32_338 c1_i32_339
  let v579 : BitVec 32 := Scalar.addi c0_i32_340 v578
  v579.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .sgt v2 c30_i32
  let v95 : BitVec 32 := Scalar.extui v94
  let c0_i32_31 : BitVec 32 := 0#32
  let v96 : BitVec 1 := Scalar.cmpi .ne v95 c0_i32_31
  v96

def k0_dev31 : Nat :=
  let c0_i32_340 : BitVec 32 := 0#32
  let c30_i32_338 : BitVec 32 := 30#32
  let c1_i32_339 : BitVec 32 := 1#32
  let v578 : BitVec 32 := Scalar.muli c30_i32_338 c1_i32_339
  let v579 : BitVec 32 := Scalar.addi c0_i32_340 v578
  v579.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .sgt v2 c31_i32
  let v98 : BitVec 32 := Scalar.extui v97
  let c0_i32_32 : BitVec 32 := 0#32
  let v99 : BitVec 1 := Scalar.cmpi .ne v98 c0_i32_32
  v99

def k0_dev32 : Nat :=
  let c0_i32_340 : BitVec 32 := 0#32
  let c31_i32_338 : BitVec 32 := 31#32
  let c1_i32_339 : BitVec 32 := 1#32
  let v578 : BitVec 32 := Scalar.muli c31_i32_338 c1_i32_339
  let v579 : BitVec 32 := Scalar.addi c0_i32_340 v578
  v579.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_100 : BitVec 32 := 0#32
  let v204 : BitVec 1 := Scalar.cmpi .slt v2 c0_i32_100
  let v205 : BitVec 32 := Scalar.extui v204
  let c0_i32_101 : BitVec 32 := 0#32
  let v206 : BitVec 1 := Scalar.cmpi .ne v205 c0_i32_101
  v206

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev33 : Nat :=
  let c0_i32_340 : BitVec 32 := 0#32
  let c0_i32_338 : BitVec 32 := 0#32
  let c1_i32_339 : BitVec 32 := 1#32
  let v578 : BitVec 32 := Scalar.muli c0_i32_338 c1_i32_339
  let v579 : BitVec 32 := Scalar.addi c0_i32_340 v578
  v579.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_102 : BitVec 32 := 1#32
  let v207 : BitVec 1 := Scalar.cmpi .slt v2 c1_i32_102
  let v208 : BitVec 32 := Scalar.extui v207
  let c0_i32_103 : BitVec 32 := 0#32
  let v209 : BitVec 1 := Scalar.cmpi .ne v208 c0_i32_103
  v209

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev34 : Nat :=
  let c0_i32_340 : BitVec 32 := 0#32
  let c1_i32_338 : BitVec 32 := 1#32
  let c1_i32_339 : BitVec 32 := 1#32
  let v578 : BitVec 32 := Scalar.muli c1_i32_338 c1_i32_339
  let v579 : BitVec 32 := Scalar.addi c0_i32_340 v578
  v579.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_104 : BitVec 32 := 2#32
  let v210 : BitVec 1 := Scalar.cmpi .slt v2 c2_i32_104
  let v211 : BitVec 32 := Scalar.extui v210
  let c0_i32_105 : BitVec 32 := 0#32
  let v212 : BitVec 1 := Scalar.cmpi .ne v211 c0_i32_105
  v212

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev35 : Nat :=
  let c0_i32_340 : BitVec 32 := 0#32
  let c2_i32_338 : BitVec 32 := 2#32
  let c1_i32_339 : BitVec 32 := 1#32
  let v578 : BitVec 32 := Scalar.muli c2_i32_338 c1_i32_339
  let v579 : BitVec 32 := Scalar.addi c0_i32_340 v578
  v579.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_106 : BitVec 32 := 3#32
  let v213 : BitVec 1 := Scalar.cmpi .slt v2 c3_i32_106
  let v214 : BitVec 32 := Scalar.extui v213
  let c0_i32_107 : BitVec 32 := 0#32
  let v215 : BitVec 1 := Scalar.cmpi .ne v214 c0_i32_107
  v215

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev36 : Nat :=
  let c0_i32_340 : BitVec 32 := 0#32
  let c3_i32_338 : BitVec 32 := 3#32
  let c1_i32_339 : BitVec 32 := 1#32
  let v578 : BitVec 32 := Scalar.muli c3_i32_338 c1_i32_339
  let v579 : BitVec 32 := Scalar.addi c0_i32_340 v578
  v579.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_108 : BitVec 32 := 4#32
  let v216 : BitVec 1 := Scalar.cmpi .slt v2 c4_i32_108
  let v217 : BitVec 32 := Scalar.extui v216
  let c0_i32_109 : BitVec 32 := 0#32
  let v218 : BitVec 1 := Scalar.cmpi .ne v217 c0_i32_109
  v218

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev37 : Nat :=
  let c0_i32_340 : BitVec 32 := 0#32
  let c4_i32_338 : BitVec 32 := 4#32
  let c1_i32_339 : BitVec 32 := 1#32
  let v578 : BitVec 32 := Scalar.muli c4_i32_338 c1_i32_339
  let v579 : BitVec 32 := Scalar.addi c0_i32_340 v578
  v579.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_110 : BitVec 32 := 5#32
  let v219 : BitVec 1 := Scalar.cmpi .slt v2 c5_i32_110
  let v220 : BitVec 32 := Scalar.extui v219
  let c0_i32_111 : BitVec 32 := 0#32
  let v221 : BitVec 1 := Scalar.cmpi .ne v220 c0_i32_111
  v221

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev38 : Nat :=
  let c0_i32_340 : BitVec 32 := 0#32
  let c5_i32_338 : BitVec 32 := 5#32
  let c1_i32_339 : BitVec 32 := 1#32
  let v578 : BitVec 32 := Scalar.muli c5_i32_338 c1_i32_339
  let v579 : BitVec 32 := Scalar.addi c0_i32_340 v578
  v579.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_112 : BitVec 32 := 6#32
  let v222 : BitVec 1 := Scalar.cmpi .slt v2 c6_i32_112
  let v223 : BitVec 32 := Scalar.extui v222
  let c0_i32_113 : BitVec 32 := 0#32
  let v224 : BitVec 1 := Scalar.cmpi .ne v223 c0_i32_113
  v224

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev39 : Nat :=
  let c0_i32_340 : BitVec 32 := 0#32
  let c6_i32_338 : BitVec 32 := 6#32
  let c1_i32_339 : BitVec 32 := 1#32
  let v578 : BitVec 32 := Scalar.muli c6_i32_338 c1_i32_339
  let v579 : BitVec 32 := Scalar.addi c0_i32_340 v578
  v579.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_114 : BitVec 32 := 7#32
  let v225 : BitVec 1 := Scalar.cmpi .slt v2 c7_i32_114
  let v226 : BitVec 32 := Scalar.extui v225
  let c0_i32_115 : BitVec 32 := 0#32
  let v227 : BitVec 1 := Scalar.cmpi .ne v226 c0_i32_115
  v227

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev40 : Nat :=
  let c0_i32_340 : BitVec 32 := 0#32
  let c7_i32_338 : BitVec 32 := 7#32
  let c1_i32_339 : BitVec 32 := 1#32
  let v578 : BitVec 32 := Scalar.muli c7_i32_338 c1_i32_339
  let v579 : BitVec 32 := Scalar.addi c0_i32_340 v578
  v579.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_116 : BitVec 32 := 8#32
  let v228 : BitVec 1 := Scalar.cmpi .slt v2 c8_i32_116
  let v229 : BitVec 32 := Scalar.extui v228
  let c0_i32_117 : BitVec 32 := 0#32
  let v230 : BitVec 1 := Scalar.cmpi .ne v229 c0_i32_117
  v230

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev41 : Nat :=
  let c0_i32_340 : BitVec 32 := 0#32
  let c8_i32_338 : BitVec 32 := 8#32
  let c1_i32_339 : BitVec 32 := 1#32
  let v578 : BitVec 32 := Scalar.muli c8_i32_338 c1_i32_339
  let v579 : BitVec 32 := Scalar.addi c0_i32_340 v578
  v579.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_118 : BitVec 32 := 9#32
  let v231 : BitVec 1 := Scalar.cmpi .slt v2 c9_i32_118
  let v232 : BitVec 32 := Scalar.extui v231
  let c0_i32_119 : BitVec 32 := 0#32
  let v233 : BitVec 1 := Scalar.cmpi .ne v232 c0_i32_119
  v233

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev42 : Nat :=
  let c0_i32_340 : BitVec 32 := 0#32
  let c9_i32_338 : BitVec 32 := 9#32
  let c1_i32_339 : BitVec 32 := 1#32
  let v578 : BitVec 32 := Scalar.muli c9_i32_338 c1_i32_339
  let v579 : BitVec 32 := Scalar.addi c0_i32_340 v578
  v579.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_120 : BitVec 32 := 10#32
  let v234 : BitVec 1 := Scalar.cmpi .slt v2 c10_i32_120
  let v235 : BitVec 32 := Scalar.extui v234
  let c0_i32_121 : BitVec 32 := 0#32
  let v236 : BitVec 1 := Scalar.cmpi .ne v235 c0_i32_121
  v236

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev43 : Nat :=
  let c0_i32_340 : BitVec 32 := 0#32
  let c10_i32_338 : BitVec 32 := 10#32
  let c1_i32_339 : BitVec 32 := 1#32
  let v578 : BitVec 32 := Scalar.muli c10_i32_338 c1_i32_339
  let v579 : BitVec 32 := Scalar.addi c0_i32_340 v578
  v579.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_122 : BitVec 32 := 11#32
  let v237 : BitVec 1 := Scalar.cmpi .slt v2 c11_i32_122
  let v238 : BitVec 32 := Scalar.extui v237
  let c0_i32_123 : BitVec 32 := 0#32
  let v239 : BitVec 1 := Scalar.cmpi .ne v238 c0_i32_123
  v239

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev44 : Nat :=
  let c0_i32_340 : BitVec 32 := 0#32
  let c11_i32_338 : BitVec 32 := 11#32
  let c1_i32_339 : BitVec 32 := 1#32
  let v578 : BitVec 32 := Scalar.muli c11_i32_338 c1_i32_339
  let v579 : BitVec 32 := Scalar.addi c0_i32_340 v578
  v579.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_124 : BitVec 32 := 12#32
  let v240 : BitVec 1 := Scalar.cmpi .slt v2 c12_i32_124
  let v241 : BitVec 32 := Scalar.extui v240
  let c0_i32_125 : BitVec 32 := 0#32
  let v242 : BitVec 1 := Scalar.cmpi .ne v241 c0_i32_125
  v242

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev45 : Nat :=
  let c0_i32_340 : BitVec 32 := 0#32
  let c12_i32_338 : BitVec 32 := 12#32
  let c1_i32_339 : BitVec 32 := 1#32
  let v578 : BitVec 32 := Scalar.muli c12_i32_338 c1_i32_339
  let v579 : BitVec 32 := Scalar.addi c0_i32_340 v578
  v579.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_126 : BitVec 32 := 13#32
  let v243 : BitVec 1 := Scalar.cmpi .slt v2 c13_i32_126
  let v244 : BitVec 32 := Scalar.extui v243
  let c0_i32_127 : BitVec 32 := 0#32
  let v245 : BitVec 1 := Scalar.cmpi .ne v244 c0_i32_127
  v245

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev46 : Nat :=
  let c0_i32_340 : BitVec 32 := 0#32
  let c13_i32_338 : BitVec 32 := 13#32
  let c1_i32_339 : BitVec 32 := 1#32
  let v578 : BitVec 32 := Scalar.muli c13_i32_338 c1_i32_339
  let v579 : BitVec 32 := Scalar.addi c0_i32_340 v578
  v579.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_128 : BitVec 32 := 14#32
  let v246 : BitVec 1 := Scalar.cmpi .slt v2 c14_i32_128
  let v247 : BitVec 32 := Scalar.extui v246
  let c0_i32_129 : BitVec 32 := 0#32
  let v248 : BitVec 1 := Scalar.cmpi .ne v247 c0_i32_129
  v248

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev47 : Nat :=
  let c0_i32_340 : BitVec 32 := 0#32
  let c14_i32_338 : BitVec 32 := 14#32
  let c1_i32_339 : BitVec 32 := 1#32
  let v578 : BitVec 32 := Scalar.muli c14_i32_338 c1_i32_339
  let v579 : BitVec 32 := Scalar.addi c0_i32_340 v578
  v579.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_130 : BitVec 32 := 15#32
  let v249 : BitVec 1 := Scalar.cmpi .slt v2 c15_i32_130
  let v250 : BitVec 32 := Scalar.extui v249
  let c0_i32_131 : BitVec 32 := 0#32
  let v251 : BitVec 1 := Scalar.cmpi .ne v250 c0_i32_131
  v251

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev48 : Nat :=
  let c0_i32_340 : BitVec 32 := 0#32
  let c15_i32_338 : BitVec 32 := 15#32
  let c1_i32_339 : BitVec 32 := 1#32
  let v578 : BitVec 32 := Scalar.muli c15_i32_338 c1_i32_339
  let v579 : BitVec 32 := Scalar.addi c0_i32_340 v578
  v579.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_132 : BitVec 32 := 16#32
  let v252 : BitVec 1 := Scalar.cmpi .slt v2 c16_i32_132
  let v253 : BitVec 32 := Scalar.extui v252
  let c0_i32_133 : BitVec 32 := 0#32
  let v254 : BitVec 1 := Scalar.cmpi .ne v253 c0_i32_133
  v254

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev49 : Nat :=
  let c0_i32_340 : BitVec 32 := 0#32
  let c16_i32_338 : BitVec 32 := 16#32
  let c1_i32_339 : BitVec 32 := 1#32
  let v578 : BitVec 32 := Scalar.muli c16_i32_338 c1_i32_339
  let v579 : BitVec 32 := Scalar.addi c0_i32_340 v578
  v579.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_134 : BitVec 32 := 17#32
  let v255 : BitVec 1 := Scalar.cmpi .slt v2 c17_i32_134
  let v256 : BitVec 32 := Scalar.extui v255
  let c0_i32_135 : BitVec 32 := 0#32
  let v257 : BitVec 1 := Scalar.cmpi .ne v256 c0_i32_135
  v257

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev50 : Nat :=
  let c0_i32_340 : BitVec 32 := 0#32
  let c17_i32_338 : BitVec 32 := 17#32
  let c1_i32_339 : BitVec 32 := 1#32
  let v578 : BitVec 32 := Scalar.muli c17_i32_338 c1_i32_339
  let v579 : BitVec 32 := Scalar.addi c0_i32_340 v578
  v579.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_136 : BitVec 32 := 18#32
  let v258 : BitVec 1 := Scalar.cmpi .slt v2 c18_i32_136
  let v259 : BitVec 32 := Scalar.extui v258
  let c0_i32_137 : BitVec 32 := 0#32
  let v260 : BitVec 1 := Scalar.cmpi .ne v259 c0_i32_137
  v260

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev51 : Nat :=
  let c0_i32_340 : BitVec 32 := 0#32
  let c18_i32_338 : BitVec 32 := 18#32
  let c1_i32_339 : BitVec 32 := 1#32
  let v578 : BitVec 32 := Scalar.muli c18_i32_338 c1_i32_339
  let v579 : BitVec 32 := Scalar.addi c0_i32_340 v578
  v579.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_138 : BitVec 32 := 19#32
  let v261 : BitVec 1 := Scalar.cmpi .slt v2 c19_i32_138
  let v262 : BitVec 32 := Scalar.extui v261
  let c0_i32_139 : BitVec 32 := 0#32
  let v263 : BitVec 1 := Scalar.cmpi .ne v262 c0_i32_139
  v263

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev52 : Nat :=
  let c0_i32_340 : BitVec 32 := 0#32
  let c19_i32_338 : BitVec 32 := 19#32
  let c1_i32_339 : BitVec 32 := 1#32
  let v578 : BitVec 32 := Scalar.muli c19_i32_338 c1_i32_339
  let v579 : BitVec 32 := Scalar.addi c0_i32_340 v578
  v579.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_140 : BitVec 32 := 20#32
  let v264 : BitVec 1 := Scalar.cmpi .slt v2 c20_i32_140
  let v265 : BitVec 32 := Scalar.extui v264
  let c0_i32_141 : BitVec 32 := 0#32
  let v266 : BitVec 1 := Scalar.cmpi .ne v265 c0_i32_141
  v266

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev53 : Nat :=
  let c0_i32_340 : BitVec 32 := 0#32
  let c20_i32_338 : BitVec 32 := 20#32
  let c1_i32_339 : BitVec 32 := 1#32
  let v578 : BitVec 32 := Scalar.muli c20_i32_338 c1_i32_339
  let v579 : BitVec 32 := Scalar.addi c0_i32_340 v578
  v579.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_142 : BitVec 32 := 21#32
  let v267 : BitVec 1 := Scalar.cmpi .slt v2 c21_i32_142
  let v268 : BitVec 32 := Scalar.extui v267
  let c0_i32_143 : BitVec 32 := 0#32
  let v269 : BitVec 1 := Scalar.cmpi .ne v268 c0_i32_143
  v269

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev54 : Nat :=
  let c0_i32_340 : BitVec 32 := 0#32
  let c21_i32_338 : BitVec 32 := 21#32
  let c1_i32_339 : BitVec 32 := 1#32
  let v578 : BitVec 32 := Scalar.muli c21_i32_338 c1_i32_339
  let v579 : BitVec 32 := Scalar.addi c0_i32_340 v578
  v579.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_144 : BitVec 32 := 22#32
  let v270 : BitVec 1 := Scalar.cmpi .slt v2 c22_i32_144
  let v271 : BitVec 32 := Scalar.extui v270
  let c0_i32_145 : BitVec 32 := 0#32
  let v272 : BitVec 1 := Scalar.cmpi .ne v271 c0_i32_145
  v272

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev55 : Nat :=
  let c0_i32_340 : BitVec 32 := 0#32
  let c22_i32_338 : BitVec 32 := 22#32
  let c1_i32_339 : BitVec 32 := 1#32
  let v578 : BitVec 32 := Scalar.muli c22_i32_338 c1_i32_339
  let v579 : BitVec 32 := Scalar.addi c0_i32_340 v578
  v579.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_146 : BitVec 32 := 23#32
  let v273 : BitVec 1 := Scalar.cmpi .slt v2 c23_i32_146
  let v274 : BitVec 32 := Scalar.extui v273
  let c0_i32_147 : BitVec 32 := 0#32
  let v275 : BitVec 1 := Scalar.cmpi .ne v274 c0_i32_147
  v275

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev56 : Nat :=
  let c0_i32_340 : BitVec 32 := 0#32
  let c23_i32_338 : BitVec 32 := 23#32
  let c1_i32_339 : BitVec 32 := 1#32
  let v578 : BitVec 32 := Scalar.muli c23_i32_338 c1_i32_339
  let v579 : BitVec 32 := Scalar.addi c0_i32_340 v578
  v579.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_148 : BitVec 32 := 24#32
  let v276 : BitVec 1 := Scalar.cmpi .slt v2 c24_i32_148
  let v277 : BitVec 32 := Scalar.extui v276
  let c0_i32_149 : BitVec 32 := 0#32
  let v278 : BitVec 1 := Scalar.cmpi .ne v277 c0_i32_149
  v278

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev57 : Nat :=
  let c0_i32_340 : BitVec 32 := 0#32
  let c24_i32_338 : BitVec 32 := 24#32
  let c1_i32_339 : BitVec 32 := 1#32
  let v578 : BitVec 32 := Scalar.muli c24_i32_338 c1_i32_339
  let v579 : BitVec 32 := Scalar.addi c0_i32_340 v578
  v579.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_150 : BitVec 32 := 25#32
  let v279 : BitVec 1 := Scalar.cmpi .slt v2 c25_i32_150
  let v280 : BitVec 32 := Scalar.extui v279
  let c0_i32_151 : BitVec 32 := 0#32
  let v281 : BitVec 1 := Scalar.cmpi .ne v280 c0_i32_151
  v281

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev58 : Nat :=
  let c0_i32_340 : BitVec 32 := 0#32
  let c25_i32_338 : BitVec 32 := 25#32
  let c1_i32_339 : BitVec 32 := 1#32
  let v578 : BitVec 32 := Scalar.muli c25_i32_338 c1_i32_339
  let v579 : BitVec 32 := Scalar.addi c0_i32_340 v578
  v579.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_152 : BitVec 32 := 26#32
  let v282 : BitVec 1 := Scalar.cmpi .slt v2 c26_i32_152
  let v283 : BitVec 32 := Scalar.extui v282
  let c0_i32_153 : BitVec 32 := 0#32
  let v284 : BitVec 1 := Scalar.cmpi .ne v283 c0_i32_153
  v284

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev59 : Nat :=
  let c0_i32_340 : BitVec 32 := 0#32
  let c26_i32_338 : BitVec 32 := 26#32
  let c1_i32_339 : BitVec 32 := 1#32
  let v578 : BitVec 32 := Scalar.muli c26_i32_338 c1_i32_339
  let v579 : BitVec 32 := Scalar.addi c0_i32_340 v578
  v579.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_154 : BitVec 32 := 27#32
  let v285 : BitVec 1 := Scalar.cmpi .slt v2 c27_i32_154
  let v286 : BitVec 32 := Scalar.extui v285
  let c0_i32_155 : BitVec 32 := 0#32
  let v287 : BitVec 1 := Scalar.cmpi .ne v286 c0_i32_155
  v287

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev60 : Nat :=
  let c0_i32_340 : BitVec 32 := 0#32
  let c27_i32_338 : BitVec 32 := 27#32
  let c1_i32_339 : BitVec 32 := 1#32
  let v578 : BitVec 32 := Scalar.muli c27_i32_338 c1_i32_339
  let v579 : BitVec 32 := Scalar.addi c0_i32_340 v578
  v579.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_156 : BitVec 32 := 28#32
  let v288 : BitVec 1 := Scalar.cmpi .slt v2 c28_i32_156
  let v289 : BitVec 32 := Scalar.extui v288
  let c0_i32_157 : BitVec 32 := 0#32
  let v290 : BitVec 1 := Scalar.cmpi .ne v289 c0_i32_157
  v290

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev61 : Nat :=
  let c0_i32_340 : BitVec 32 := 0#32
  let c28_i32_338 : BitVec 32 := 28#32
  let c1_i32_339 : BitVec 32 := 1#32
  let v578 : BitVec 32 := Scalar.muli c28_i32_338 c1_i32_339
  let v579 : BitVec 32 := Scalar.addi c0_i32_340 v578
  v579.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_158 : BitVec 32 := 29#32
  let v291 : BitVec 1 := Scalar.cmpi .slt v2 c29_i32_158
  let v292 : BitVec 32 := Scalar.extui v291
  let c0_i32_159 : BitVec 32 := 0#32
  let v293 : BitVec 1 := Scalar.cmpi .ne v292 c0_i32_159
  v293

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev62 : Nat :=
  let c0_i32_340 : BitVec 32 := 0#32
  let c29_i32_338 : BitVec 32 := 29#32
  let c1_i32_339 : BitVec 32 := 1#32
  let v578 : BitVec 32 := Scalar.muli c29_i32_338 c1_i32_339
  let v579 : BitVec 32 := Scalar.addi c0_i32_340 v578
  v579.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_160 : BitVec 32 := 30#32
  let v294 : BitVec 1 := Scalar.cmpi .slt v2 c30_i32_160
  let v295 : BitVec 32 := Scalar.extui v294
  let c0_i32_161 : BitVec 32 := 0#32
  let v296 : BitVec 1 := Scalar.cmpi .ne v295 c0_i32_161
  v296

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev63 : Nat :=
  let c0_i32_340 : BitVec 32 := 0#32
  let c30_i32_338 : BitVec 32 := 30#32
  let c1_i32_339 : BitVec 32 := 1#32
  let v578 : BitVec 32 := Scalar.muli c30_i32_338 c1_i32_339
  let v579 : BitVec 32 := Scalar.addi c0_i32_340 v578
  v579.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_162 : BitVec 32 := 31#32
  let v297 : BitVec 1 := Scalar.cmpi .slt v2 c31_i32_162
  let v298 : BitVec 32 := Scalar.extui v297
  let c0_i32_163 : BitVec 32 := 0#32
  let v299 : BitVec 1 := Scalar.cmpi .ne v298 c0_i32_163
  v299

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_341 : BitVec 32 := 0#32
  let c0_i32_342 : BitVec 32 := 0#32
  ![v2.toNat, 0, 0]
def k0_dev64 : Nat :=
  let c0_i32_340 : BitVec 32 := 0#32
  let c31_i32_338 : BitVec 32 := 31#32
  let c1_i32_339 : BitVec 32 := 1#32
  let v578 : BitVec 32 := Scalar.muli c31_i32_338 c1_i32_339
  let v579 : BitVec 32 := Scalar.addi c0_i32_340 v578
  v579.toNat
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_273 : BitVec 32 := 0#32
  let v482 : BitVec 1 := Scalar.cmpi .slt v2 c0_i32_273
  let v483 : BitVec 32 := Scalar.extui v482
  let c0_i32_274 : BitVec 32 := 0#32
  let v484 : BitVec 1 := Scalar.cmpi .ne v483 c0_i32_274
  v484

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_275 : BitVec 32 := 1#32
  let v485 : BitVec 1 := Scalar.cmpi .slt v2 c1_i32_275
  let v486 : BitVec 32 := Scalar.extui v485
  let c0_i32_276 : BitVec 32 := 0#32
  let v487 : BitVec 1 := Scalar.cmpi .ne v486 c0_i32_276
  v487

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_277 : BitVec 32 := 2#32
  let v488 : BitVec 1 := Scalar.cmpi .slt v2 c2_i32_277
  let v489 : BitVec 32 := Scalar.extui v488
  let c0_i32_278 : BitVec 32 := 0#32
  let v490 : BitVec 1 := Scalar.cmpi .ne v489 c0_i32_278
  v490

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_279 : BitVec 32 := 3#32
  let v491 : BitVec 1 := Scalar.cmpi .slt v2 c3_i32_279
  let v492 : BitVec 32 := Scalar.extui v491
  let c0_i32_280 : BitVec 32 := 0#32
  let v493 : BitVec 1 := Scalar.cmpi .ne v492 c0_i32_280
  v493

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_281 : BitVec 32 := 4#32
  let v494 : BitVec 1 := Scalar.cmpi .slt v2 c4_i32_281
  let v495 : BitVec 32 := Scalar.extui v494
  let c0_i32_282 : BitVec 32 := 0#32
  let v496 : BitVec 1 := Scalar.cmpi .ne v495 c0_i32_282
  v496

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_283 : BitVec 32 := 5#32
  let v497 : BitVec 1 := Scalar.cmpi .slt v2 c5_i32_283
  let v498 : BitVec 32 := Scalar.extui v497
  let c0_i32_284 : BitVec 32 := 0#32
  let v499 : BitVec 1 := Scalar.cmpi .ne v498 c0_i32_284
  v499

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_285 : BitVec 32 := 6#32
  let v500 : BitVec 1 := Scalar.cmpi .slt v2 c6_i32_285
  let v501 : BitVec 32 := Scalar.extui v500
  let c0_i32_286 : BitVec 32 := 0#32
  let v502 : BitVec 1 := Scalar.cmpi .ne v501 c0_i32_286
  v502

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_287 : BitVec 32 := 7#32
  let v503 : BitVec 1 := Scalar.cmpi .slt v2 c7_i32_287
  let v504 : BitVec 32 := Scalar.extui v503
  let c0_i32_288 : BitVec 32 := 0#32
  let v505 : BitVec 1 := Scalar.cmpi .ne v504 c0_i32_288
  v505

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_289 : BitVec 32 := 8#32
  let v506 : BitVec 1 := Scalar.cmpi .slt v2 c8_i32_289
  let v507 : BitVec 32 := Scalar.extui v506
  let c0_i32_290 : BitVec 32 := 0#32
  let v508 : BitVec 1 := Scalar.cmpi .ne v507 c0_i32_290
  v508

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_291 : BitVec 32 := 9#32
  let v509 : BitVec 1 := Scalar.cmpi .slt v2 c9_i32_291
  let v510 : BitVec 32 := Scalar.extui v509
  let c0_i32_292 : BitVec 32 := 0#32
  let v511 : BitVec 1 := Scalar.cmpi .ne v510 c0_i32_292
  v511

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_293 : BitVec 32 := 10#32
  let v512 : BitVec 1 := Scalar.cmpi .slt v2 c10_i32_293
  let v513 : BitVec 32 := Scalar.extui v512
  let c0_i32_294 : BitVec 32 := 0#32
  let v514 : BitVec 1 := Scalar.cmpi .ne v513 c0_i32_294
  v514

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_295 : BitVec 32 := 11#32
  let v515 : BitVec 1 := Scalar.cmpi .slt v2 c11_i32_295
  let v516 : BitVec 32 := Scalar.extui v515
  let c0_i32_296 : BitVec 32 := 0#32
  let v517 : BitVec 1 := Scalar.cmpi .ne v516 c0_i32_296
  v517

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_297 : BitVec 32 := 12#32
  let v518 : BitVec 1 := Scalar.cmpi .slt v2 c12_i32_297
  let v519 : BitVec 32 := Scalar.extui v518
  let c0_i32_298 : BitVec 32 := 0#32
  let v520 : BitVec 1 := Scalar.cmpi .ne v519 c0_i32_298
  v520

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_299 : BitVec 32 := 13#32
  let v521 : BitVec 1 := Scalar.cmpi .slt v2 c13_i32_299
  let v522 : BitVec 32 := Scalar.extui v521
  let c0_i32_300 : BitVec 32 := 0#32
  let v523 : BitVec 1 := Scalar.cmpi .ne v522 c0_i32_300
  v523

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_301 : BitVec 32 := 14#32
  let v524 : BitVec 1 := Scalar.cmpi .slt v2 c14_i32_301
  let v525 : BitVec 32 := Scalar.extui v524
  let c0_i32_302 : BitVec 32 := 0#32
  let v526 : BitVec 1 := Scalar.cmpi .ne v525 c0_i32_302
  v526

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_303 : BitVec 32 := 15#32
  let v527 : BitVec 1 := Scalar.cmpi .slt v2 c15_i32_303
  let v528 : BitVec 32 := Scalar.extui v527
  let c0_i32_304 : BitVec 32 := 0#32
  let v529 : BitVec 1 := Scalar.cmpi .ne v528 c0_i32_304
  v529

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_305 : BitVec 32 := 16#32
  let v530 : BitVec 1 := Scalar.cmpi .slt v2 c16_i32_305
  let v531 : BitVec 32 := Scalar.extui v530
  let c0_i32_306 : BitVec 32 := 0#32
  let v532 : BitVec 1 := Scalar.cmpi .ne v531 c0_i32_306
  v532

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_307 : BitVec 32 := 17#32
  let v533 : BitVec 1 := Scalar.cmpi .slt v2 c17_i32_307
  let v534 : BitVec 32 := Scalar.extui v533
  let c0_i32_308 : BitVec 32 := 0#32
  let v535 : BitVec 1 := Scalar.cmpi .ne v534 c0_i32_308
  v535

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_309 : BitVec 32 := 18#32
  let v536 : BitVec 1 := Scalar.cmpi .slt v2 c18_i32_309
  let v537 : BitVec 32 := Scalar.extui v536
  let c0_i32_310 : BitVec 32 := 0#32
  let v538 : BitVec 1 := Scalar.cmpi .ne v537 c0_i32_310
  v538

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_311 : BitVec 32 := 19#32
  let v539 : BitVec 1 := Scalar.cmpi .slt v2 c19_i32_311
  let v540 : BitVec 32 := Scalar.extui v539
  let c0_i32_312 : BitVec 32 := 0#32
  let v541 : BitVec 1 := Scalar.cmpi .ne v540 c0_i32_312
  v541

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_313 : BitVec 32 := 20#32
  let v542 : BitVec 1 := Scalar.cmpi .slt v2 c20_i32_313
  let v543 : BitVec 32 := Scalar.extui v542
  let c0_i32_314 : BitVec 32 := 0#32
  let v544 : BitVec 1 := Scalar.cmpi .ne v543 c0_i32_314
  v544

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_315 : BitVec 32 := 21#32
  let v545 : BitVec 1 := Scalar.cmpi .slt v2 c21_i32_315
  let v546 : BitVec 32 := Scalar.extui v545
  let c0_i32_316 : BitVec 32 := 0#32
  let v547 : BitVec 1 := Scalar.cmpi .ne v546 c0_i32_316
  v547

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_317 : BitVec 32 := 22#32
  let v548 : BitVec 1 := Scalar.cmpi .slt v2 c22_i32_317
  let v549 : BitVec 32 := Scalar.extui v548
  let c0_i32_318 : BitVec 32 := 0#32
  let v550 : BitVec 1 := Scalar.cmpi .ne v549 c0_i32_318
  v550

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_319 : BitVec 32 := 23#32
  let v551 : BitVec 1 := Scalar.cmpi .slt v2 c23_i32_319
  let v552 : BitVec 32 := Scalar.extui v551
  let c0_i32_320 : BitVec 32 := 0#32
  let v553 : BitVec 1 := Scalar.cmpi .ne v552 c0_i32_320
  v553

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_321 : BitVec 32 := 24#32
  let v554 : BitVec 1 := Scalar.cmpi .slt v2 c24_i32_321
  let v555 : BitVec 32 := Scalar.extui v554
  let c0_i32_322 : BitVec 32 := 0#32
  let v556 : BitVec 1 := Scalar.cmpi .ne v555 c0_i32_322
  v556

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_323 : BitVec 32 := 25#32
  let v557 : BitVec 1 := Scalar.cmpi .slt v2 c25_i32_323
  let v558 : BitVec 32 := Scalar.extui v557
  let c0_i32_324 : BitVec 32 := 0#32
  let v559 : BitVec 1 := Scalar.cmpi .ne v558 c0_i32_324
  v559

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_325 : BitVec 32 := 26#32
  let v560 : BitVec 1 := Scalar.cmpi .slt v2 c26_i32_325
  let v561 : BitVec 32 := Scalar.extui v560
  let c0_i32_326 : BitVec 32 := 0#32
  let v562 : BitVec 1 := Scalar.cmpi .ne v561 c0_i32_326
  v562

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_327 : BitVec 32 := 27#32
  let v563 : BitVec 1 := Scalar.cmpi .slt v2 c27_i32_327
  let v564 : BitVec 32 := Scalar.extui v563
  let c0_i32_328 : BitVec 32 := 0#32
  let v565 : BitVec 1 := Scalar.cmpi .ne v564 c0_i32_328
  v565

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_329 : BitVec 32 := 28#32
  let v566 : BitVec 1 := Scalar.cmpi .slt v2 c28_i32_329
  let v567 : BitVec 32 := Scalar.extui v566
  let c0_i32_330 : BitVec 32 := 0#32
  let v568 : BitVec 1 := Scalar.cmpi .ne v567 c0_i32_330
  v568

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_331 : BitVec 32 := 29#32
  let v569 : BitVec 1 := Scalar.cmpi .slt v2 c29_i32_331
  let v570 : BitVec 32 := Scalar.extui v569
  let c0_i32_332 : BitVec 32 := 0#32
  let v571 : BitVec 1 := Scalar.cmpi .ne v570 c0_i32_332
  v571

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_333 : BitVec 32 := 30#32
  let v572 : BitVec 1 := Scalar.cmpi .slt v2 c30_i32_333
  let v573 : BitVec 32 := Scalar.extui v572
  let c0_i32_334 : BitVec 32 := 0#32
  let v574 : BitVec 1 := Scalar.cmpi .ne v573 c0_i32_334
  v574

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_335 : BitVec 32 := 31#32
  let v575 : BitVec 1 := Scalar.cmpi .slt v2 c31_i32_335
  let v576 : BitVec 32 := Scalar.extui v575
  let c0_i32_336 : BitVec 32 := 0#32
  let v577 : BitVec 1 := Scalar.cmpi .ne v576 c0_i32_336
  v577

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S_, .bf16⟩
  | .hbm, ⟨2, _⟩ => ⟨S_, .bf16⟩
  | .hbm, ⟨3, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
  The protocol by which the 32 devices exchange their column sums, stated once for every device and for any float
  values.  The kernel of device `c` uses three families of semaphores.

  * The runtime's BARRIER semaphore of device `c`.  Every device `c' > c` signals it once, by one unit, before it does
    anything else; device `c` waits for one unit `31 - c` times.  The unit of device `c'` hands `c` the slot `c` of the
    landing buffer of `c'` (at whatever contents), so after its waits `c` may write slot `c` of every later device.
  * The SEND semaphores `0 .. 31` of device `c`.  Semaphore `j > c` is credited by the device's own copy to device `j`
    when the copy has read its source; it hands back the share of the column-sum buffer the copy borrowed.
  * The RECEIVE semaphores `0 .. 31` of device `c`.  Semaphore `i < c` is credited by device `i`'s copy; it hands over
    slot `i` of the landing buffer of `c`, now holding the column sums of the rows of device `i`.

  Every device signals first, then waits at its barrier, then copies, then waits for what it receives, and last waits for
  its own copies: the barrier cells lie below the receive cells, and a device waiting on a receive or a send cell owes
  nothing any more.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy (duties `Unit`) and the exchange's (duties: devices) -/

/-- The ghost state of the kernel's own semaphores. -/
abbrev UB : Type := URounds (GSem nD τ sig) (Dev nD)
/-- The ghost state of the pipeline and of the kernel's semaphores. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The part of the ghost state that belongs to the kernel's semaphores. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and the cells -/

/-- The argument's buffer. -/
abbrev xM : Memref sig .tc .vmem S2048x1024 .bf16 := Memref.whole cc0_stg0_0
/-- The result's buffer. -/
abbrev oM : Memref sig .tc .vmem S2048x1024 .bf16 := Memref.whole cc0_stg1_0
/-- The scratch copy of the argument. -/
abbrev bM : Memref sig .tc .vmem S2048x1024 .bf16 := Memref.whole cc0_scratch0
/-- The buffer of the column sums. -/
abbrev aM : Memref sig .tc .vmem S1x1024 .f32 := Memref.whole cc0_scratch1
/-- The buffer the column sums of the other devices land in, a slot for each. -/
abbrev rM : Memref sig .tc .vmem S32x1x1024 .f32 := Memref.whole cc0_scratch2

/-- The offsets of slot `i` of the landing buffer. -/
def slotOff (i : Dev nD) : Fin 3 → ℕ := ![i.val, 0, 0]

/-- A slot lies inside the landing buffer. -/
theorem slotOff_inb (i : Dev nD) : ∀ a, slotOff i a + S1x1x1024.size a ≤ S32x1x1024.size a := by revert i; decide

/-- Slot `i` of the landing buffer: where device `i`'s copy lands. -/
def slotM (i : Dev nD) : Memref sig .tc .vmem S1x1024 .f32 :=
  (rM.slice (Rect.unit (s := S32x1x1024) (slotOff i) S1x1x1024.size (slotOff_inb i)) (fun _ => rfl)).squeeze S1x1024 squeezes_S1x1x1024_S1x1024

/-- The runtime's barrier semaphore. -/
abbrev barS : Sem sig := (SemArray.scalar (sig.barrier 0 rfl) : Sems sig S_).sem
/-- The send semaphore for the copy to device `j`. -/
def sendS (j : Dev nD) : DmaSem sig := ⟨j.val + 2, by have := j.isLt; show j.val + 2 < 66; have : nD = 32 := rfl; omega⟩
/-- The receive semaphore for the copy from device `i`. -/
def recvS (i : Dev nD) : DmaSem sig := ⟨i.val + 34, by have := i.isLt; show i.val + 34 < 66; have : nD = 32 := rfl; omega⟩

/-- The barrier semaphore of device `c`. -/
abbrev barCell (c : Dev nD) : GSem nD τ sig := ((c : Thread nD τ), .reg barS)
/-- The send semaphore of device `c` for its copy to device `j`. -/
abbrev sendCell (c j : Dev nD) : GSem nD τ sig := ((c : Thread nD τ), .dma (sendS j))
/-- The receive semaphore of device `c` for the copy from device `i`. -/
abbrev recvCell (c i : Dev nD) : GSem nD τ sig := ((c : Thread nD τ), .dma (recvS i))

/-- Entry `j` of the array of send semaphores is send semaphore `j`. -/
theorem sendS_eq (off : Fin 1 → ℕ) (inb : ∀ a, off a + S1.size a ≤ S32.size a) (j : Dev nD) (h : off = ![j.val]) :
    ((cc0_scratch3.slice (Rect.unit (s := S32) off S1.size inb)).squeeze S_ squeezes_S1_S_).sem = sendS j := by
  subst h; revert j; decide
/-- Entry `i` of the array of receive semaphores is receive semaphore `i`. -/
theorem recvS_eq (off : Fin 1 → ℕ) (inb : ∀ a, off a + S1.size a ≤ S32.size a) (i : Dev nD) (h : off = ![i.val]) :
    ((cc0_scratch4.slice (Rect.unit (s := S32) off S1.size inb)).squeeze S_ squeezes_S1_S_).sem = recvS i := by
  subst h; revert i; decide
/-- Row `i` of the landing buffer is slot `i`. -/
theorem slotM_eq (off : Fin 3 → ℕ) (inb : ∀ a, off a + S1x1x1024.size a ≤ S32x1x1024.size a) (i : Dev nD) (h : off = ![i.val, 0, 0]) :
    (rM.slice (Rect.unit (s := S32x1x1024) off S1x1x1024.size inb) (fun _ => rfl)).squeeze S1x1024 squeezes_S1x1x1024_S1x1024 = slotM i := by
  subst h; rfl

/-- What one copy of the column sums credits. -/
abbrev N : ℕ := (aM : Memref sig .tc .vmem S1x1024 .f32).view.dmaCredit
/-- A copy is worth at least one unit. -/
theorem N_pos : 0 < N := View.dmaCredit_pos _ (by decide)
/-- A copy into any slot is worth the same units. -/
theorem slot_credit (i : Dev nD) : (slotM i).view.dmaCredit = N := rfl

/-! ## Contents -/

/-- The rows of `x` device `c` holds. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of the rows device `c` holds. -/
def total (c : Dev nD) : (cc0_scratch1 : Ref sig .tc).ty.Contents (Elt F) := k0_pay6 (xstg m ρ c)

/-- The share of the column-sum buffer lent to the copy to device `j`: one of the 32 shares five halvings cut it into. -/
def share (j : Dev nD) : PosShare TreeShare := ShareLeaves.leaf 5 fullShare j

/-! ## The schedule -/

/-- Slot `i` of device `c`'s landing buffer at contents `f`. -/
def slotPts (c i : Dev nD) (f : Buf (Elt F) ((slotM i).view.loc (c : Thread nD τ))) : sProp 𝕄 :=
  (slotM i).view.loc (c : Thread nD τ) ↦[(slotM i).view.set]{fullShare} f

/-- Device `c'`'s unit on `c`'s barrier: slot `c` of `c'`'s landing buffer. -/
def barPay (c c' : Dev nD) : sProp 𝕄 := iprop(∃ f, slotPts (F := F) c' c f)
/-- Device `i`'s copy landed on `c`: slot `i` holds `i`'s column sums. -/
def recvPay (c i : Dev nD) : sProp 𝕄 :=
  iprop(∃ f, ⌜(slotM i).view.read (Elt F) f = total m ρ i⌝ ∗ slotPts (F := F) c i f)
/-- `c`'s copy to `j` has read its source: the share it borrowed is back. -/
def sendPay (c j : Dev nD) : sProp 𝕄 :=
  (aM : Memref sig .tc .vmem S1x1024 .f32).view.loc (c : Thread nD τ) ↦[aM.view.set]{share j} total m ρ c

/-- The ownership of a slot may be handed over through a semaphore. -/
instance slotPts_storable (c i : Dev nD) (f) : BI.Storable (upEmb : UEmb _ 𝕄) (slotPts (F := F) c i f) := by unfold slotPts; infer_instance
set_option synthInstance.maxHeartbeats 400000 in
/-- What a barrier unit hands over may be stored. -/
instance barPay_storable (c c' : Dev nD) : BI.Storable (upEmb : UEmb _ 𝕄) (barPay (F := F) c c') := by unfold barPay; infer_instance
set_option synthInstance.maxHeartbeats 400000 in
/-- What a landed copy hands over may be stored. -/
instance recvPay_storable (c i : Dev nD) : BI.Storable (upEmb : UEmb _ 𝕄) (recvPay (F := F) m ρ c i) := by unfold recvPay; infer_instance
/-- What a finished send hands back may be stored. -/
instance sendPay_storable (c j : Dev nD) : BI.Storable (upEmb : UEmb _ 𝕄) (sendPay (F := F) m ρ c j) := by unfold sendPay; infer_instance

/-- The duties a cell of device `c` has in its one round: a barrier cell one per later device; send cell `j` the one
    named `j` if `j` comes later; receive cell `i` the one named `i` if `i` comes earlier. -/
def due (c : Dev nD) (s : SemLoc sig) (d : Dev nD) : Prop :=
  match s with
  | .reg s => s = barS ∧ c < d
  | .dma q => (q = sendS d ∧ c < d) ∨ (q = recvS d ∧ d < c)

/-- Whether a duty is due can be decided. -/
instance (c : Dev nD) (s : SemLoc sig) : DecidablePred (due c s) := fun d => by
  unfold due; cases s <;> infer_instance

/-- One round, round 0. -/
def Rd : Rounds.Schedule (GSem nD τ sig) (Dev nD) 𝕄 where
  duties g r := if r = 0 ∧ g.1.2 = .tc then Finset.univ.filter (due g.1.1 g.2) else ∅
  unitless _ := False
  amount g _ _ := match g.2 with | .reg _ => 1 | .dma _ => N
  payload g _ d :=
    match g.2 with
    | .reg _ => barPay g.1.1 d
    | .dma q => if q = sendS d then sendPay m ρ g.1.1 d else recvPay m ρ g.1.1 d
  amount_pos g _ _ _ := by
    cases g.2 with
    | reg _ => exact Nat.one_pos
    | dma _ => exact N_pos

/-- What any unit hands over may be stored. -/
instance Rd_payload_storable (g : GSem nD τ sig) (r : ℕ) (d : Dev nD) :
    BI.Storable (upEmb : UEmb _ 𝕄) ((Rd (F := F) m ρ).payload g r d) := by
  obtain ⟨t, s⟩ := g
  cases s with
  | reg s => exact barPay_storable _ _
  | dma q =>
    show BI.Storable upEmb (if q = sendS d then sendPay m ρ t.1 d else recvPay m ρ t.1 d)
    split <;> infer_instance

/-- The devices after `c` from number `n` on. -/
def later (c : Dev nD) (n : ℕ) : Finset (Dev nD) := Finset.univ.filter fun j => n ≤ j.val ∧ c < j
/-- The devices before `c` from number `n` on. -/
def earlier (c : Dev nD) (n : ℕ) : Finset (Dev nD) := Finset.univ.filter fun i => n ≤ i.val ∧ i < c

/-- Send semaphores are told apart by their numbers. -/
theorem sendS_inj {a b : Dev nD} : sendS a = sendS b ↔ a = b :=
  ⟨fun h => Fin.ext (by have := congrArg Fin.val h; simp only [sendS] at this; omega), fun h => h ▸ rfl⟩
/-- Receive semaphores are told apart by their numbers. -/
theorem recvS_inj {a b : Dev nD} : recvS a = recvS b ↔ a = b :=
  ⟨fun h => Fin.ext (by have := congrArg Fin.val h; simp only [recvS] at this; omega), fun h => h ▸ rfl⟩
/-- A send semaphore is no receive semaphore. -/
theorem send_ne_recv (a b : Dev nD) : sendS a ≠ recvS b := fun h => by
  have h1 := congrArg Fin.val h; have h2 := a.isLt; have h3 : nD = 32 := rfl
  simp only [sendS, recvS] at h1; omega

section Sched
variable (c i j : Dev nD)

/-- The devices that pay a semaphore in its only round. -/
theorem duties_zero (s : SemLoc sig) : (Rd (F := F) m ρ).duties ((c : Thread nD τ), s) 0 = Finset.univ.filter (due c s) := by
  dsimp only [Rd]; exact if_pos ⟨rfl, rfl⟩
/-- The barrier semaphore is paid by the later devices. -/
theorem duties_bar : (Rd (F := F) m ρ).duties (barCell c) 0 = later c 0 := by
  rw [duties_zero]
  ext d
  rw [later, Finset.mem_filter, Finset.mem_filter]
  exact ⟨fun h => ⟨h.1, Nat.zero_le _, h.2.2⟩, fun h => ⟨h.1, rfl, h.2.2⟩⟩
/-- A send semaphore to a later device is paid once, for that device; the others are not paid. -/
theorem duties_send : (Rd (F := F) m ρ).duties (sendCell c j) 0 = if c < j then {j} else ∅ := by
  rw [duties_zero]
  ext d
  simp only [due, Finset.mem_filter, Finset.mem_univ, true_and, sendS_inj, send_ne_recv, false_and, or_false]
  split
  · rw [Finset.mem_singleton]; constructor
    · rintro ⟨rfl, _⟩; rfl
    · rintro rfl; exact ⟨rfl, by assumption⟩
  · constructor
    · rintro ⟨rfl, _⟩; contradiction
    · intro h; exact absurd h (Finset.notMem_empty _)
/-- A receive semaphore from an earlier device is paid by it; the others are not paid. -/
theorem duties_recv : (Rd (F := F) m ρ).duties (recvCell c i) 0 = if i < c then {i} else ∅ := by
  rw [duties_zero]
  ext d
  simp only [due, Finset.mem_filter, Finset.mem_univ, true_and, recvS_inj, (send_ne_recv _ _).symm, false_and, false_or]
  split
  · rw [Finset.mem_singleton]; constructor
    · rintro ⟨rfl, _⟩; rfl
    · rintro rfl; exact ⟨rfl, by assumption⟩
  · constructor
    · rintro ⟨rfl, _⟩; contradiction
    · intro h; exact absurd h (Finset.notMem_empty _)
/-- No semaphore is paid in a second round. -/
theorem duties_later (g : GSem nD τ sig) : ∀ r, 1 ≤ r → (Rd (F := F) m ρ).duties g r = ∅ :=
  fun r hr => if_neg fun h => by omega

/-- A barrier signal is one unit. -/
theorem amount_bar (d : Dev nD) : (Rd (F := F) m ρ).amount (barCell c) 0 d = 1 := rfl
/-- A finished send pays the units of one copy. -/
theorem amount_send (d : Dev nD) : (Rd (F := F) m ρ).amount (sendCell c j) 0 d = N := rfl
/-- A landed copy pays the units of one copy. -/
theorem amount_recv (d : Dev nD) : (Rd (F := F) m ρ).amount (recvCell c i) 0 d = N := rfl

/-- The barrier semaphore expects one unit from every later device. -/
theorem expect_bar : (Rd (F := F) m ρ).expect (barCell c) 0 = (later c 0).card := by
  unfold Schedule.expect Schedule.amountOf
  rw [duties_bar, Finset.sum_congr rfl fun d _ => amount_bar m ρ c d, Finset.sum_const, smul_eq_mul, Nat.mul_one]
/-- A send semaphore to a later device expects the units of one copy. -/
theorem expect_send (h : c < j) : (Rd (F := F) m ρ).expect (sendCell c j) 0 = N := by
  unfold Schedule.expect Schedule.amountOf; rw [duties_send, if_pos h, Finset.sum_singleton, amount_send]
/-- A receive semaphore from an earlier device expects the units of one copy. -/
theorem expect_recv (h : i < c) : (Rd (F := F) m ρ).expect (recvCell c i) 0 = N := by
  unfold Schedule.expect Schedule.amountOf; rw [duties_recv, if_pos h, Finset.sum_singleton, amount_recv]

/-- What a barrier unit hands over. -/
theorem payload_bar (d : Dev nD) : (Rd (F := F) m ρ).payload (barCell c) 0 d = barPay c d := rfl
/-- What a finished send hands back. -/
theorem payload_send : (Rd (F := F) m ρ).payload (sendCell c j) 0 j = sendPay m ρ c j := if_pos rfl
/-- What a landed copy hands over. -/
theorem payload_recv : (Rd (F := F) m ρ).payload (recvCell c i) 0 i = recvPay m ρ c i := if_neg (send_ne_recv _ _).symm

/-- What a send cell, and what a receive cell, hands over in its round. -/
theorem rest_send (h : c < j) :
    bigSep ((Rd (F := F) m ρ).duties (sendCell c j) 0 \ ∅) (fun d => (Rd (F := F) m ρ).payload (sendCell c j) 0 d) = sendPay m ρ c j := by
  rw [Finset.sdiff_empty, duties_send, if_pos h, bigSep_singleton, payload_send]
/-- All that a receive semaphore hands over is what the one copy hands over. -/
theorem rest_recv (h : i < c) :
    bigSep ((Rd (F := F) m ρ).duties (recvCell c i) 0 \ ∅) (fun d => (Rd (F := F) m ρ).payload (recvCell c i) 0 d) = recvPay m ρ c i := by
  rw [Finset.sdiff_empty, duties_recv, if_pos h, bigSep_singleton, payload_recv]

end Sched

/-! ## What each device owes at launch; the levels -/

/-- Device `c` still owes the barrier cells of the earlier devices from `a` on a unit each, and the receive cells `c` of
    the later devices from `b` on the credit of a copy each. -/
def owing (c : Dev nD) (a b : ℕ) : CellTallies nD τ sig Unit :=
  (∑ j ∈ later c b, tallyAt (recvCell j c) () N) + ∑ i ∈ earlier c a, tallyAt (barCell i) () 1

/-- The kinds of units of a semaphore: one on the main thread of a device, none elsewhere. -/
def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma q => if 34 ≤ q.val then 2 else 0

/-- Semaphores of other threads have no units. -/
theorem L_of_ne (g : GSem nD τ sig) (h : g.1.2 ≠ .tc) : L g = ∅ := if_neg h
/-- Semaphores of a device's main thread have one kind of unit. -/
theorem L_tc (c : Dev nD) (sm : SemLoc sig) : L ((c : Thread nD τ), sm) = {()} := if_pos rfl

/-- The level of a receive semaphore. -/
theorem lv_recv (c i : Dev nD) (u : Unit) : lv (recvCell c i) u = 2 := by
  dsimp only [lv]; exact if_pos (Nat.le_add_left _ _)

/-- A sum of tallies that is positive at a cell has a summand at that cell. -/
theorem sum_tally_pos {S : Finset (Dev nD)} {f : Dev nD → GSem nD τ sig} {k : ℕ} {g : GSem nD τ sig} {u : Unit}
    (h : 0 < (∑ d ∈ S, tallyAt (f d) () k : CellTallies nD τ sig Unit) g u) : ∃ d ∈ S, g = f d := by
  rw [Finset.sum_apply, Finsupp.finset_sum_apply] at h
  obtain ⟨d, hd, hne⟩ := Finset.exists_ne_zero_of_sum_ne_zero (Nat.pos_iff_ne_zero.mp h)
  refine ⟨d, hd, ?_⟩
  by_contra hg
  exact hne (by rw [tallyAt_apply, if_neg fun h' => hg h'.1])

/-- What a device still owes are copies to later devices and signals to earlier ones. -/
theorem owing_pos {c : Dev nD} {a b : ℕ} {g : GSem nD τ sig} {u : Unit} (h : 0 < owing c a b g u) :
    (∃ j ∈ later c b, g = recvCell j c) ∨ ∃ i ∈ earlier c a, g = barCell i := by
  unfold owing at h
  rw [Pi.add_apply, Finsupp.add_apply] at h
  rcases Nat.add_pos_iff_pos_or_pos.mp h with h | h
  · exact .inl (sum_tally_pos h)
  · exact .inr (sum_tally_pos h)

/-- A wait on a cell of level 0 may be made owing anything the protocol owes. -/
theorem mayWait_zero (c : Dev nD) (q : DmaSem sig) (hq : ¬ 34 ≤ q.val) (a b : ℕ) :
    (levAts L lv : sProp 𝕄) ⊢ MayWait (c : Thread nD τ) (.dma q) () (owing c a b) :=
  MayOwe.of_cut (L := L) (lev := lv) 0 (fun p hp => by rw [Finset.mem_singleton.mp hp, L_tc]; exact Finset.mem_singleton_self _)
    (fun g u hg => by rcases owing_pos hg with ⟨d, _, rfl⟩ | ⟨d, _, rfl⟩ <;> exact Finset.mem_singleton_self _)
    (fun p hp => by rw [Finset.mem_singleton.mp hp]; dsimp only [lv]; rw [if_neg hq])
    (fun g u hg => by
      rcases owing_pos hg with ⟨d, _, rfl⟩ | ⟨d, _, rfl⟩
      · rw [lv_recv]; decide
      · dsimp only [lv]; decide)

/-- A barrier wait may be made owing receive cells only: they lie above. -/
theorem mayWait_bar (c : Dev nD) (b : ℕ) (a : ℕ) (ha : earlier c a = ∅) :
    (levAts L lv : sProp 𝕄) ⊢ MayOwe (c : Thread nD τ) {((.reg barS : SemLoc sig), ())} (owing c a b) :=
  MayOwe.of_cut (L := L) (lev := lv) 1 (fun p hp => by rw [Finset.mem_singleton.mp hp, L_tc]; exact Finset.mem_singleton_self _)
    (fun g u hg => by rcases owing_pos hg with ⟨d, _, rfl⟩ | ⟨d, _, rfl⟩ <;> exact Finset.mem_singleton_self _)
    (fun p hp => by rw [Finset.mem_singleton.mp hp]; dsimp only [lv]; decide)
    (fun g u hg => by
      rcases owing_pos hg with ⟨d, _, rfl⟩ | ⟨d, hd, rfl⟩
      · rw [lv_recv]; decide
      · rw [ha] at hd; exact absurd hd (Finset.notMem_empty _))

end Cert.KernelIdeal.Scan

end
-- ==== Proof.Steps.lean ====
/-
  The guarded steps of the kernel, one lemma for each of its five families: signal, barrier wait, copy, receive wait and
  send wait.  Every step of a family is guarded by a condition on the device's number; each lemma takes the family's state
  before the step, executes the step if its condition holds, and leaves the state after it — or, the condition being
  false, finds that the two states are the same.
-/
module

public import proofs.«01_k».proof.Proof.Protocol

@[expose] public section

set_option maxRecDepth 16384

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel has no loop that needs a measure. -/
abbrev 𝒱₀ : Variants := Variants.none

/-- The weakest precondition of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A separating conjunction over one more index. -/
theorem bigSep_cons {I : Type} [DecidableEq I] {i : I} {s : Finset I} (h : i ∉ s) (Φ : I → sProp 𝕄) :
    bigSep (insert i s) Φ = iprop(Φ i ∗ bigSep s Φ) := bigSep_insert h

/-- A separating conjunction over a larger set: the smaller one's and the rest's. -/
theorem bigSep_more {I : Type} [DecidableEq I] {s t : Finset I} (h : s ⊆ t) (Φ : I → sProp 𝕄) :
    bigSep t Φ = iprop(bigSep s Φ ∗ bigSep (t \ s) Φ) := by
  conv_lhs => rw [← Finset.union_sdiff_of_subset h]
  exact bigSep_union Finset.disjoint_sdiff

/-! ## Sequencing -/

section Seq
variable {α β : Type} {c : Dev nD}

/-- A program framed and followed by another. -/
theorem wp_seq {R A B : sProp 𝕄} {p : Prog (TpuEff nD τ sig (Elt F) Λ₀ .tc) β} {k : β → Prog (TpuEff nD τ sig (Elt F) Λ₀ .tc) α} {Q : α → sProp 𝕄}
    {v : β}
    (h : A ⊢ WP c p (fun w => iprop(⌜w = v⌝ ∗ B))) (hk : iprop(R ∗ B) ⊢ WP c (k v) Q) :
    iprop(R ∗ A) ⊢ WP c (p >>= k) Q := by
  refine BIBase.Entails.trans ?_ (Entails.of_eq (wp_bind frame (wpE (defs₀ (F := F)) 𝒱₀ (c : Thread nD τ) none) Set.univ p k Q).symm)
  iintro ⟨HR, HA⟩
  iapply (wp_wand frame (wpE (defs₀ (F := F)) 𝒱₀ (c : Thread nD τ) none) Set.univ (Q := fun w => iprop(⌜w = v⌝ ∗ B))) $$ [HA]
  · iapply h; iexact HA
  iintro %w ⟨%hw, HB⟩
  subst hw
  iapply hk
  isplitl [HR] <;> iassumption

/-- A guarded step: if its condition holds the step takes `A` to `B`, if not `A` already gives `B`. -/
theorem wp_guard {R A B : sProp 𝕄} {p : Prop} [Decidable p] {T : p → Prog (TpuEff nD τ sig (Elt F) Λ₀ .tc) α} {E : ¬p → Prog (TpuEff nD τ sig (Elt F) Λ₀ .tc) α}
    {x : Prog (TpuEff nD τ sig (Elt F) Λ₀ .tc) α} {Q : α → sProp 𝕄} {t : p → Prog (TpuEff nD τ sig (Elt F) Λ₀ .tc) PUnit}
    (hE : ∀ h, E h = x) (hT : ∀ h, T h = t h >>= fun _ => x)
    (hs : ∀ h, A ⊢ WP c (t h) (fun _ => B)) (hn : ¬p → A ⊢ iprop(|={Set.univ}=> B)) (rest : iprop(R ∗ B) ⊢ WP c x Q) :
    iprop(R ∗ A) ⊢ WP c (dite p T E) Q := by
  by_cases h : p
  · rw [dif_pos h, hT h]
    refine wp_seq (v := ⟨⟩) ((hs h).trans ?_) rest
    refine wp_mono frame (wpE (defs₀ (F := F)) 𝒱₀ (c : Thread nD τ) none) Set.univ fun w => ?_
    iintro HB; isplitr; · (ipureintro; rfl)
    iexact HB
  · rw [dif_neg h, hE h]
    iintro ⟨HR, HA⟩
    iapply (fupd_wp _ _ _ _)
    ihave HB := (hn h) $$ HA
    imod HB with HB
    imodintro
    iapply rest
    isplitl [HR] <;> iassumption

end Seq

/-! ## The families of devices -/

section Families
variable (c i j : Dev nD) (n : ℕ)

/-- The earlier devices from `i` on: `i` and those after it. -/
theorem earlier_step (h : i < c) : earlier c i.val = insert i (earlier c (i.val + 1)) := by
  ext d; simp only [earlier, Finset.mem_filter, Finset.mem_univ, true_and, Finset.mem_insert, Fin.ext_iff, Fin.lt_def] at *; omega
/-- A device is not among those after it. -/
theorem earlier_notMem : i ∉ earlier c (i.val + 1) := by
  simp only [earlier, Finset.mem_filter, Finset.mem_univ, true_and]; omega
/-- Numbers from that of `c` on add no earlier device. -/
theorem earlier_skip (h : ¬ n < c.val) : earlier c n = earlier c (n + 1) := by
  ext d; simp only [earlier, Finset.mem_filter, Finset.mem_univ, true_and, Fin.lt_def]; omega
/-- No device has a number of 32 or more, so none is left. -/
theorem earlier_zero (h : 32 ≤ n) : earlier c n = ∅ := by
  ext d; have := d.isLt; have h3 : nD = 32 := rfl
  simp only [earlier, Finset.mem_filter, Finset.mem_univ, true_and, Finset.notMem_empty, iff_false]; omega
/-- The later devices from `j` on: `j` and those after it. -/
theorem later_step (h : c < j) : later c j.val = insert j (later c (j.val + 1)) := by
  ext d; simp only [later, Finset.mem_filter, Finset.mem_univ, true_and, Finset.mem_insert, Fin.ext_iff, Fin.lt_def] at *; omega
/-- A device is not among those after it. -/
theorem later_notMem : j ∉ later c (j.val + 1) := by
  simp only [later, Finset.mem_filter, Finset.mem_univ, true_and]; omega
/-- Numbers up to that of `c` add no later device. -/
theorem later_skip (h : ¬ c < j) : later c j.val = later c (j.val + 1) := by
  ext d; simp only [later, Finset.mem_filter, Finset.mem_univ, true_and, Fin.lt_def, Fin.ext_iff] at *; omega
/-- No device has a number of 32 or more, so none is left. -/
theorem later_zero (h : 32 ≤ n) : later c n = ∅ := by
  ext d; have := d.isLt; have h3 : nD = 32 := rfl
  simp only [later, Finset.mem_filter, Finset.mem_univ, true_and, Finset.notMem_empty, iff_false]; omega

/-- Before the signal to device `i` the device owes that unit besides the rest. -/
theorem owing_signal (h : i < c) (b : ℕ) : owing c i.val b = owing c (i.val + 1) b + tallyAt (barCell i) () 1 := by
  unfold owing; rw [earlier_step c i h, Finset.sum_insert (earlier_notMem c i), add_comm (tallyAt (barCell i) () 1), add_assoc]
/-- Before the copy to device `j` the device owes its units besides the rest. -/
theorem owing_send (h : c < j) (a : ℕ) : owing c a j.val = owing c a (j.val + 1) + tallyAt (recvCell j c) () N := by
  unfold owing; rw [later_step c j h, Finset.sum_insert (later_notMem c j), add_comm (tallyAt (recvCell j c) () N), add_right_comm]
/-- After all signals and copies nothing is owed. -/
theorem owing_done : owing c 32 32 = 0 := by
  unfold owing; rw [later_zero c 32 le_rfl, earlier_zero c 32 le_rfl, Finset.sum_empty, Finset.sum_empty, add_zero]

end Families

/-! ## What every step finds -/

/-- The cells of the protocol: the barrier cell of each device, its send cells and its receive cells. -/
abbrev CI : Type := Dev nD × Option (Bool × Dev nD)
/-- The semaphores of the kernel by their indices. -/
def kcell : CI → GSem nD τ sig
  | (c, none) => barCell c
  | (c, some (false, j)) => sendCell c j
  | (c, some (true, i)) => recvCell c i

/-- A cell's invariant is allocated and its round 0 is reached. -/
def record (g : GSem nD τ sig) : sProp 𝕄 := iprop((∃ κ, cellInv ER (Rd m ρ) κ g) ∗ reached ER g 0)
/-- What is recorded about a semaphore may be copied. -/
instance record_persistent (g) : BI.Persistent (record m ρ g : sProp 𝕄) := by unfold record; infer_instance
/-- All cells' records, and the level facts. -/
def records : sProp 𝕄 := iprop(bigSep (Finset.univ : Finset CI) (fun g => record m ρ (kcell g)) ∗ levAts L lv)
/-- All that is recorded about the semaphores may be copied. -/
instance records_persistent : BI.Persistent (records m ρ : sProp 𝕄) := by unfold records; infer_instance

/-- The record of one semaphore. -/
theorem records_get (g : CI) : records m ρ ⊢ record (F := F) m ρ (kcell g) := by
  unfold records
  exact sep_elim_left.trans (bigSep_elim (Φ := fun g => record (F := F) m ρ (kcell g)) (Finset.mem_univ g))
/-- The records include the levels of the semaphores. -/
theorem records_lev : records m ρ ⊢ (levAts L lv : sProp 𝕄) := by
  unfold records; iintro ⟨-, H⟩; iexact H

/-- What device `c` still owes, at some set of waits made. -/
def Ow (c : Dev nD) (a b : ℕ) : sProp 𝕄 := iprop(∃ W, owes (c : Thread nD τ) (owing c a b) W)

/-! ## Signals -/

/-- Signals from number `n` on: the token of the unit, and the slot the unit hands over. -/
def Sig (c : Dev nD) (n : ℕ) : sProp 𝕄 :=
  iprop(records m ρ ∗ Ow c n 0 ∗ bigSep (earlier c n) (fun i => iprop(dutyTok ER (barCell i) 0 c ∗ barPay (F := F) i c)))

/-- A signal that is not made changes nothing. -/
theorem sig_skip (c : Dev nD) (n : ℕ) (h : ¬ n < c.val) : Sig m ρ c n ⊢ iprop(|={Set.univ}=> Sig (F := F) m ρ c (n + 1)) := by
  unfold Sig Ow owing; rw [earlier_skip c n h]; exact fupd_intro

/-- A signal of device `c` to the earlier device `i`. -/
theorem sig_step (c i d : Dev nD) (hd : d = i) (h : i < c) :
    Sig m ρ c i.val ⊢ WP (F := F) c (semSignalWord d barS 1#32) (fun _ => Sig m ρ c (i.val + 1)) := by
  subst hd
  unfold Sig Ow
  rw [earlier_step c d h, bigSep_cons (earlier_notMem c d), owing_signal c d h 0]
  iintro ⟨#HR, ⟨%W, HO⟩, ⟨Htok, Hpay⟩, Hrest⟩
  ihave #Hc := (records_get m ρ (d, none)) $$ HR
  unfold record
  icases Hc with ⟨⟨%κ, #HI⟩, #Hr⟩
  iapply (Rounds.wp_signal 𝒱₀ ER (Rd m ρ) (c : Thread nD τ) none (dst := (d : Thread nD τ)) (κ := κ) (r := 0)
      (d := c) (by rw [duties_bar, later, Finset.mem_filter]; exact ⟨Finset.mem_univ _, Nat.zero_le _, h⟩)
      ((amount_bar m ρ d c).trans (by decide)) () (owing c (d.val + 1) 0) rfl)
    $$ [HO Htok Hpay]
  · isplitr; · iexact HI
    isplitl [HO]; · iexact HO
    isplitl [Htok]; · iexact Htok
    isplitl [Hpay]; · rw [payload_bar]; iexact Hpay
    iexact Hr
  iintro HO
  rw [wp_ret]; imodintro
  isplitr; · iexact HR
  isplitl [HO]; · iexists W; iexact HO
  iexact Hrest

/-! ## Barrier waits -/

/-- Waits at the barrier from number `n` on: some of the slots handed over already, the units still to come in. -/
def Wt (c : Dev nD) (n : ℕ) : sProp 𝕄 :=
  iprop(records m ρ ∗ Ow c 32 0 ∗ cred (tallyAt (barCell c) () (later c n).card)
    ∗ ∃ (S : Finset (Dev nD)) (k : ℕ), ⌜S ⊆ later c 0 ∧ k + (later c n).card = (later c 0).card⌝
        ∗ atPos ER (barCell c) 0 S k ∗ bigSep S (fun d => barPay (F := F) c d))

/-- After the last wait: every later device's slot, and the barrier's counter back at zero. -/
def Barred (c : Dev nD) : sProp 𝕄 :=
  iprop(records m ρ ∗ Ow c 32 0 ∗ bigSep (later c 0) (fun d => barPay (F := F) c d) ∗ semVal (barCell c) 0)

/-- A barrier wait that is not made changes nothing. -/
theorem wt_skip (c j : Dev nD) (h : ¬ c < j) : Wt m ρ c j.val ⊢ iprop(|={Set.univ}=> Wt (F := F) m ρ c (j.val + 1)) := by
  unfold Wt; rw [later_skip c j h]; exact fupd_intro

/-- One fewer later device is left after `j`. -/
theorem later_card (c j : Dev nD) (h : c < j) : (later c j.val).card = (later c (j.val + 1)).card + 1 := by
  rw [later_step c j h, Finset.card_insert_of_notMem (later_notMem c j)]

/-- A barrier wait that is not the last. -/
theorem wt_step (c j : Dev nD) (h : c < j) :
    Wt m ρ c j.val ⊢ WP (F := F) c (semWaitWord barS 1#32) (fun _ => Wt m ρ c (j.val + 1)) := by
  unfold Wt Ow
  rw [later_card c j h, ← tallyAt_add]
  iintro ⟨#HR, ⟨%W, HO⟩, Hc, ⟨%S, %k, %hS, Hat, Hpay⟩⟩
  ihave #Hc1 := (records_get m ρ (c, none)) $$ HR
  ihave #Hlev := (records_lev (F := F) m ρ) $$ HR
  unfold record
  icases Hc1 with ⟨⟨%κ, #HI⟩, #Hr⟩
  ihave Hc2 := (cred_add _ _).1 $$ Hc
  icases Hc2 with ⟨Hc, Hc1⟩
  iapply (Rounds.wp_wait 𝒱₀ ER (Rd m ρ) (c : Thread nD τ) none (κ := κ) (sm := .reg barS) (k' := 1)
      (wpE_semWait_eq 𝒱₀ (c : Thread nD τ) none Set.univ) (Set.mem_univ _) (cr := Finsupp.single () 1)
      (O := owing c 32 0) (W := W) {(.reg barS, ())} (R := 0) (m := k) (T := S)
      (by rw [Util.total_single]) (image_single_subset _ _ _)) $$ [Hc1 HO Hat]
  · isplitr; · iexact HI
    isplitl [Hc1]; · iexact Hc1
    isplitl [HO]; · iexact HO
    isplitr; · iapply (mayWait_bar c 0 32 (earlier_zero c 32 le_rfl)); iexact Hlev
    iexact Hat
  iintro %S' ⟨%hS', HO, Hat, Hpay'⟩
  rw [wp_ret]; imodintro
  isplitr; · iexact HR
  isplitl [HO]; · iexists _; iexact HO
  isplitl [Hc]; · iexact Hc
  iexists S', (k + 1)
  isplitr
  · ipureintro
    refine ⟨hS'.2.1.trans (by rw [duties_bar]), ?_⟩
    have := hS.2
    omega
  isplitl [Hat]; · iexact Hat
  ihave Hall := (Entails.of_eq (bigSep_more hS'.1 (fun d => barPay (F := F) c d)).symm) $$ [Hpay Hpay']
  · isplitl [Hpay]; · iexact Hpay
    iexact Hpay'
  iexact Hall

/-- The last barrier wait: the cell closes after it, the counter at zero. -/
theorem wt_last (c j : Dev nD) (h : c < j) (hj : j.val = 31) :
    Wt m ρ c j.val ⊢ WP (F := F) c (semWaitWord barS 1#32) (fun _ => Barred m ρ c) := by
  unfold Wt Ow Barred Ow
  rw [later_card c j h, later_zero c (j.val + 1) (by omega), Finset.card_empty, Nat.zero_add]
  iintro ⟨#HR, ⟨%W, HO⟩, Hc, ⟨%S, %k, %hS, Hat, Hpay⟩⟩
  ihave #Hc1 := (records_get m ρ (c, none)) $$ HR
  ihave #Hlev := (records_lev (F := F) m ρ) $$ HR
  unfold record
  icases Hc1 with ⟨⟨%κ, #HI⟩, #Hr⟩
  iapply (Rounds.wp_wait_rest_token 𝒱₀ ER (Rd m ρ) (c : Thread nD τ) none (κ := κ) (sm := .reg barS) (k' := 1)
      (wpE_semWait_eq 𝒱₀ (c : Thread nD τ) none Set.univ) (Set.mem_univ _) ()
      (O := owing c 32 0) (W := W) (R := 0) (m := k) (T := S) (by rw [expect_bar]; exact hS.2)) $$ [Hc HO Hat]
  · isplitr; · iexact HI
    isplitl [Hc]; · iexact Hc
    isplitl [HO]; · iexact HO
    isplitr; · iapply (mayWait_bar c 0 32 (earlier_zero c 32 le_rfl)); iexact Hlev
    iexact Hat
  iintro ⟨HO, Hat, -, Hpay'⟩
  imod (Rounds.cell_close ER (Rd m ρ) (Set.mem_univ κ) (fun h => h) (R := 0 + 1) (duties_later m ρ (barCell c))) $$ [Hat] with Hz
  · isplitr; · iexact HI
    iexact Hat
  rw [wp_ret]; imodintro
  isplitr; · iexact HR
  isplitl [HO]; · iexists _; iexact HO
  isplitl [Hpay Hpay']
  · rw [duties_bar]
    ihave Hall := (Entails.of_eq (bigSep_more hS.1 (fun d => barPay (F := F) c d)).symm) $$ [Hpay Hpay']
    · isplitl [Hpay]; · iexact Hpay
      iexact Hpay'
    iexact Hall
  iexact Hz

/-- The last device awaits nobody: its barrier cell closes without a wait. -/
theorem wt_last_skip (c j : Dev nD) (h : ¬ c < j) (hj : j.val = 31) :
    Wt m ρ c j.val ⊢ iprop(|={Set.univ}=> Barred (F := F) m ρ c) := by
  have hc : later c 0 = ∅ := by
    ext d; have hd : d.val < 32 := d.isLt
    simp only [later, Finset.mem_filter, Finset.mem_univ, true_and, Finset.notMem_empty, iff_false, Fin.lt_def] at h ⊢; omega
  unfold Wt Barred
  iintro ⟨#HR, HO, -, ⟨%S, %k, %hS, Hat, -⟩⟩
  ihave #Hc1 := (records_get m ρ (c, none)) $$ HR
  unfold record
  icases Hc1 with ⟨⟨%κ, #HI⟩, #Hr⟩
  have hS' : S = ∅ := Finset.subset_empty.mp (hc ▸ hS.1)
  have hk : k = 0 := by have := hS.2; rw [hc, Finset.card_empty] at this; omega
  subst hS' hk
  imod (Rounds.cell_close ER (Rd m ρ) (Set.mem_univ κ) (fun h => h) (R := 0)
    (fun r _ => by
      rcases Nat.eq_zero_or_pos r with rfl | hr
      · rw [duties_bar, hc]
      · exact duties_later m ρ (barCell c) r hr)) $$ [Hat] with Hz
  · isplitr; · iexact HI
    iexact Hat
  imodintro
  isplitr; · iexact HR
  isplitl [HO]; · iexact HO
  isplitr; · rw [hc, bigSep_empty]; iempintro
  iexact Hz

/-! ## The three families of transfers

A family runs over all 32 numbers: what number `j` holds before its step, for the numbers from `n` on, and after it, for
those below `n`. -/

/-- The devices from number `n` on. -/
def from_ (n : ℕ) : Finset (Dev nD) := Finset.univ.filter fun j => n ≤ j.val
/-- The devices before number `n`. -/
def upto (n : ℕ) : Finset (Dev nD) := Finset.univ.filter fun j => j.val < n

/-- The devices from `j` on: `j` and those after it. -/
theorem from_step (j : Dev nD) : from_ j.val = insert j (from_ (j.val + 1)) := by
  ext d; simp only [from_, Finset.mem_filter, Finset.mem_univ, true_and, Finset.mem_insert, Fin.ext_iff]; omega
/-- A device is not among those after it. -/
theorem from_notMem (j : Dev nD) : j ∉ from_ (j.val + 1) := by
  simp only [from_, Finset.mem_filter, Finset.mem_univ, true_and]; omega
/-- The devices up to `j`: `j` and those before it. -/
theorem upto_step (j : Dev nD) : upto (j.val + 1) = insert j (upto j.val) := by
  ext d; simp only [upto, Finset.mem_filter, Finset.mem_univ, true_and, Finset.mem_insert, Fin.ext_iff]; omega
/-- A device is not among those before it. -/
theorem upto_notMem (j : Dev nD) : j ∉ upto j.val := by
  simp only [upto, Finset.mem_filter, Finset.mem_univ, true_and]; omega
/-- At the start all devices are ahead. -/
theorem from_zero : from_ 0 = Finset.univ := by
  ext d; simp only [from_, Finset.mem_filter, Finset.mem_univ, true_and, Nat.zero_le]
/-- At the end no device is ahead. -/
theorem from_last : from_ 32 = ∅ := by
  ext d; have := d.isLt; have h3 : nD = 32 := rfl
  simp only [from_, Finset.mem_filter, Finset.mem_univ, true_and, Finset.notMem_empty, iff_false]; omega
/-- At the start no device is done. -/
theorem upto_zero : upto 0 = ∅ := by
  ext d; simp only [upto, Finset.mem_filter, Finset.mem_univ, true_and, Finset.notMem_empty, iff_false]; omega
/-- At the end all devices are done. -/
theorem upto_last : upto 32 = Finset.univ := by
  ext d; have := d.isLt; have h3 : nD = 32 := rfl
  simp only [upto, Finset.mem_filter, Finset.mem_univ, true_and, iff_true]; omega

/-- A family of numbers `n` and on before their step, the others after it. -/
def Fam (B A : Dev nD → sProp 𝕄) (n : ℕ) : sProp 𝕄 := iprop(bigSep (from_ n) B ∗ bigSep (upto n) A)

/-- Before the first step the family is as before everywhere. -/
theorem fam_zero (B A : Dev nD → sProp 𝕄) : Fam B A 0 = bigSep Finset.univ B := by
  unfold Fam; rw [from_zero, upto_zero, bigSep_empty]; exact equiv_iff.mp sep_emp
/-- After the last step the family is as after everywhere. -/
theorem fam_last (B A : Dev nD → sProp 𝕄) : Fam B A 32 = bigSep Finset.univ A := by
  unfold Fam; rw [from_last, upto_last, bigSep_empty]; exact equiv_iff.mp emp_sep
/-- The next number taken out of the family. -/
theorem fam_take (B A : Dev nD → sProp 𝕄) (j : Dev nD) :
    Fam B A j.val ⊢ iprop(B j ∗ (A j -∗ Fam B A (j.val + 1))) := by
  unfold Fam
  rw [from_step, bigSep_cons (from_notMem j), upto_step, bigSep_cons (upto_notMem j)]
  iintro ⟨⟨HB, HF⟩, HU⟩
  isplitl [HB]; · iexact HB
  iintro HA
  isplitl [HF]; · iexact HF
  isplitl [HA]; · iexact HA
  iexact HU

/-! ### Copies -/

/-- What the copy to device `j` takes: slot `c` of `j`'s landing buffer, the share of the column sums it reads, the two
    tokens. -/
def sndB (c j : Dev nD) : sProp 𝕄 :=
  if c < j then iprop(barPay (F := F) c j ∗ sendPay m ρ c j ∗ dutyTok ER (sendCell c j) 0 j ∗ dutyTok ER (recvCell j c) 0 c) else iprop(emp)
/-- What it leaves: the credit of its send cell. -/
def sndA (c j : Dev nD) : sProp 𝕄 := if c < j then cred (tallyAt (sendCell c j) () N) else iprop(emp)

/-- What the copy to a later device needs. -/
theorem sndB_pos (c j : Dev nD) (h : c < j) : sndB m ρ c j
    = iprop(barPay (F := F) c j ∗ sendPay m ρ c j ∗ dutyTok ER (sendCell c j) 0 j ∗ dutyTok ER (recvCell j c) 0 c) := by
  unfold sndB; rw [if_pos h]
/-- What the copy to a later device leaves: the units its send semaphore will be paid. -/
theorem sndA_pos (c j : Dev nD) (h : c < j) : sndA (F := F) c j = cred (tallyAt (sendCell c j) () N) := by unfold sndA; rw [if_pos h]
/-- No copy to a device that is not later, and nothing is left by it. -/
theorem sndA_neg (c j : Dev nD) (h : ¬ c < j) : sndA (F := F) c j = iprop(emp) := by unfold sndA; rw [if_neg h]

/-- The claim between the copies, after `n` of them. -/
def Snd (c : Dev nD) (n : ℕ) : sProp 𝕄 := iprop(records m ρ ∗ Ow c 32 n ∗ Fam (sndB m ρ c) (sndA (F := F) c) n)

/-- A copy that is not made changes nothing. -/
theorem snd_skip (c j : Dev nD) (h : ¬ c < j) : Snd m ρ c j.val ⊢ iprop(|={Set.univ}=> Snd (F := F) m ρ c (j.val + 1)) := by
  unfold Snd Ow owing
  rw [later_skip c j h]
  iintro ⟨HR, HO, HF⟩
  ihave HF' := (fam_take (sndB m ρ c) (sndA (F := F) c) j) $$ HF
  icases HF' with ⟨-, HF⟩
  imodintro
  isplitl [HR]; · iexact HR
  isplitl [HO]; · iexact HO
  iapply HF
  rw [sndA_neg c j h]; iempintro

/-- The landing of a copy: slot `c` of the destination reads the sender's column sums. -/
theorem landed_eq (c j : Dev nD) (fd : Buf (Elt F) ((slotM c).view.loc (j : Thread nD τ))) (fs : Buf (Elt F) (aM.view.loc (c : Thread nD τ))) :
    (slotM c).view.read (Elt F) ((slotM c).view.write (Elt F) fd (aM.view.read (Elt F) fs) Finset.univ) = fs := by
  rw [View.read_write_univ]; rfl

/-- The copy of device `c` to a later device `j`. -/
theorem snd_step (c j d : Dev nD) (hd : d = j) (h : c < j) {sS rS : DmaSem sig} (hsS : sS = sendS j) (hrS : rS = recvS c)
    {dst : Memref sig (Dev.tc d : Thread nD τ).2.kind .vmem S1x1024 .f32} (hdst : dst = slotM c)
    {hsc : dst.view.ref.isScScratch = false} {hw : (aM : Memref sig .tc .vmem S1x1024 .f32).view.WordExact} {hw' : dst.view.WordExact}
    {hty : DmaTarget.Typed .vmem (.dma rS) (.remote (Dev.tc d : Thread nD τ) dst (.dma sS) hsc)} :
    Snd m ρ c j.val ⊢ WP (F := F) c (Prog.lift (.enqueueDma aM (.remote (Dev.tc d : Thread nD τ) dst (.dma sS) hsc) (.dma rS) hw hw' hty))
      (fun _ => Snd m ρ c (j.val + 1)) := by
  subst hd hsS hrS hdst
  unfold Snd Ow
  rw [owing_send c d h 32]
  iintro ⟨#HR, ⟨%W, HO⟩, HF⟩
  ihave HF' := (fam_take (sndB m ρ c) (sndA (F := F) c) d) $$ HF
  icases HF' with ⟨HB, HF⟩
  ihave HB' := (Entails.of_eq (sndB_pos m ρ c d h)) $$ HB
  icases HB' with ⟨Hslot, Hsrc, Htok, Htok'⟩
  unfold barPay
  icases Hslot with ⟨%f, Hslot⟩
  ihave #Hc1 := (records_get m ρ (c, some (false, d))) $$ HR
  ihave #Hc2 := (records_get m ρ (d, some (true, c))) $$ HR
  unfold record
  icases Hc1 with ⟨⟨%κ₁, #HI₁⟩, #Hr₁⟩
  icases Hc2 with ⟨⟨%κ₂, #HI₂⟩, #Hr₂⟩
  unfold slotPts sendPay
  iapply (Rounds.wp_send_pointsTo 𝒱₀ ER (Rd m ρ) (c : Thread nD τ) none (κ₁ := κ₁) (κ₂ := κ₂)
    (r₁ := 0) (r₂ := 0) (d₁ := d) (d₂ := c) (fd := f) (fs := total m ρ c) (q := share d)
    (by rw [duties_send, if_pos h]; exact Finset.mem_singleton_self _) (by rw [duties_recv, if_pos h]; exact Finset.mem_singleton_self _)
    () () N rfl (amount_send m ρ c d d) (amount_recv m ρ d c c) (owing c 32 (d.val + 1)) rfl (W := W)
    (by rw [payload_send]; unfold sendPay; exact BI.Entails.refl _)
    (by
      rw [payload_recv]; unfold recvPay slotPts
      iintro H
      iexists _
      isplitr
      · ipureintro; exact landed_eq c d f (total m ρ c)
      iexact H)) $$ [Hslot Hsrc HO Htok Htok']
  · isplitr; · iexact HI₁
    isplitr; · iexact HI₂
    isplitl [Hsrc]; · iexact Hsrc
    isplitl [Hslot]; · iexact Hslot
    isplitl [HO]; · iexact HO
    isplitl [Htok]; · iexact Htok
    isplitr; · iexact Hr₁
    isplitl [Htok']; · iexact Htok'
    iexact Hr₂
  iintro ⟨Hcr, HO⟩
  rw [wp_ret]; imodintro
  isplitr; · iexact HR
  isplitl [HO]; · iexists _; iexact HO
  iapply HF
  rw [sndA_pos c d h]; iexact Hcr

/-! ### Receive waits -/

/-- What the wait for the copy from device `i` needs. -/
def rcvB (c i : Dev nD) : sProp 𝕄 :=
  iprop(atPos ER (recvCell c i) 0 ∅ 0 ∗ if i < c then cred (tallyAt (recvCell c i) () N) else iprop(emp))
/-- What the wait for the copy from device `i` leaves. -/
def rcvA (c i : Dev nD) : sProp 𝕄 :=
  iprop(semVal (recvCell c i) 0 ∗ if i < c then recvPay (F := F) m ρ c i else iprop(emp))

/-- The claim between the receive waits, after `n` of them. -/
def Rcv (c : Dev nD) (n : ℕ) : sProp 𝕄 := iprop(records m ρ ∗ Ow c 32 32 ∗ Fam (rcvB (F := F) c) (rcvA m ρ c) n)

/-- A receive wait that is not made changes nothing. -/
theorem rcv_skip (c i : Dev nD) (h : ¬ i < c) : Rcv m ρ c i.val ⊢ iprop(|={Set.univ}=> Rcv (F := F) m ρ c (i.val + 1)) := by
  unfold Rcv
  iintro ⟨#HR, HO, HF⟩
  ihave HF' := (fam_take (rcvB (F := F) c) (rcvA m ρ c) i) $$ HF
  icases HF' with ⟨HB, HF⟩
  unfold rcvB
  icases HB with ⟨Hat, -⟩
  ihave #Hc := (records_get m ρ (c, some (true, i))) $$ HR
  unfold record
  icases Hc with ⟨⟨%κ, #HI⟩, #Hr⟩
  imod (Rounds.cell_close ER (Rd m ρ) (Set.mem_univ κ) (fun h => h) (R := 0)
    (fun r _ => by
      rcases Nat.eq_zero_or_pos r with rfl | hr
      · rw [duties_recv, if_neg h]
      · exact duties_later m ρ (recvCell c i) r hr)) $$ [Hat] with Hz
  · isplitr; · iexact HI
    iexact Hat
  imodintro
  isplitr; · iexact HR
  isplitl [HO]; · iexact HO
  iapply HF
  unfold rcvA
  isplitl [Hz]; · iexact Hz
  rw [if_neg h]; iempintro

/-- The wait of device `c` for the copy of an earlier device `i`. -/
theorem rcv_step (c i : Dev nD) (h : i < c) {rS : DmaSem sig} (hrS : rS = recvS i)
    {sp sp' : Space} {s s' : Shape} {e e' : EltTy} {src : Memref sig .tc sp' s' e'} {dst : Memref sig .tc sp s e}
    (hN : dst.view.dmaCredit = N) {hsrc : src.view.WordExact} {hdst : dst.view.WordExact} :
    Rcv m ρ c i.val ⊢ WP (F := F) c (Prog.lift (.waitDma2 rS src dst hsrc hdst)) (fun _ => Rcv m ρ c (i.val + 1)) := by
  subst hrS
  unfold Rcv Ow
  rw [owing_done]
  iintro ⟨#HR, ⟨%W, HO⟩, HF⟩
  ihave HF' := (fam_take (rcvB (F := F) c) (rcvA m ρ c) i) $$ HF
  icases HF' with ⟨HB, HF⟩
  unfold rcvB
  rw [if_pos h]
  icases HB with ⟨Hat, Hcr⟩
  ihave #Hc := (records_get m ρ (c, some (true, i))) $$ HR
  unfold record
  icases Hc with ⟨⟨%κ, #HI⟩, #Hr⟩
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m ρ c i h, hN])) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  imod (Rounds.cell_close ER (Rd m ρ) (Set.mem_univ κ) (fun h => h) (R := 0 + 1) (duties_later m ρ (recvCell c i))) $$ [Hat] with Hz
  · isplitr; · iexact HI
    iexact Hat
  rw [wp_ret]; imodintro
  isplitr; · iexact HR
  isplitl [HO]; · iexists _; iexact HO
  iapply HF
  unfold rcvA
  rw [if_pos h]
  isplitl [Hz]; · iexact Hz
  ihave Hp := (Entails.of_eq (rest_recv m ρ c i h)) $$ Hpay
  iexact Hp

/-! ### Send waits -/

/-- What the wait for the send to device `j` needs. -/
def drnB (c j : Dev nD) : sProp 𝕄 := iprop(atPos ER (sendCell c j) 0 ∅ 0 ∗ sndA (F := F) c j)
/-- What the wait for the send to device `j` leaves. -/
def drnA (c j : Dev nD) : sProp 𝕄 :=
  iprop(semVal (sendCell c j) 0 ∗ if c < j then sendPay (F := F) m ρ c j else iprop(emp))

/-- The claim between the send waits, after `n` of them. -/
def Drn (c : Dev nD) (n : ℕ) : sProp 𝕄 := iprop(records m ρ ∗ Ow c 32 32 ∗ Fam (drnB (F := F) c) (drnA m ρ c) n)

/-- A send wait that is not made changes nothing. -/
theorem drn_skip (c j : Dev nD) (h : ¬ c < j) : Drn m ρ c j.val ⊢ iprop(|={Set.univ}=> Drn (F := F) m ρ c (j.val + 1)) := by
  unfold Drn
  iintro ⟨#HR, HO, HF⟩
  ihave HF' := (fam_take (drnB (F := F) c) (drnA m ρ c) j) $$ HF
  icases HF' with ⟨HB, HF⟩
  unfold drnB
  icases HB with ⟨Hat, -⟩
  ihave #Hc := (records_get m ρ (c, some (false, j))) $$ HR
  unfold record
  icases Hc with ⟨⟨%κ, #HI⟩, #Hr⟩
  imod (Rounds.cell_close ER (Rd m ρ) (Set.mem_univ κ) (fun h => h) (R := 0)
    (fun r _ => by
      rcases Nat.eq_zero_or_pos r with rfl | hr
      · rw [duties_send, if_neg h]
      · exact duties_later m ρ (sendCell c j) r hr)) $$ [Hat] with Hz
  · isplitr; · iexact HI
    iexact Hat
  imodintro
  isplitr; · iexact HR
  isplitl [HO]; · iexact HO
  iapply HF
  unfold drnA
  isplitl [Hz]; · iexact Hz
  rw [if_neg h]; iempintro

/-- The wait of device `c` for its own copy to a later device `j`. -/
theorem drn_step (c j : Dev nD) (h : c < j) {sS : DmaSem sig} (hsS : sS = sendS j)
    {sp sp' : Space} {s s' : Shape} {e e' : EltTy} {src : Memref sig .tc sp' s' e'} {dst : Memref sig .tc sp s e}
    (hN : dst.view.dmaCredit = N) {hsrc : src.view.WordExact} {hdst : dst.view.WordExact} :
    Drn m ρ c j.val ⊢ WP (F := F) c (Prog.lift (.waitDma2 sS src dst hsrc hdst)) (fun _ => Drn m ρ c (j.val + 1)) := by
  subst hsS
  unfold Drn Ow
  rw [owing_done]
  iintro ⟨#HR, ⟨%W, HO⟩, HF⟩
  ihave HF' := (fam_take (drnB (F := F) c) (drnA m ρ c) j) $$ HF
  icases HF' with ⟨HB, HF⟩
  unfold drnB
  rw [sndA_pos c j h]
  icases HB with ⟨Hat, Hcr⟩
  ihave #Hc := (records_get m ρ (c, some (false, j))) $$ HR
  unfold record
  icases Hc with ⟨⟨%κ, #HI⟩, #Hr⟩
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_send m ρ c j h, hN])) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  imod (Rounds.cell_close ER (Rd m ρ) (Set.mem_univ κ) (fun h => h) (R := 0 + 1) (duties_later m ρ (sendCell c j))) $$ [Hat] with Hz
  · isplitr; · iexact HI
    iexact Hat
  rw [wp_ret]; imodintro
  isplitr; · iexact HR
  isplitl [HO]; · iexists _; iexact HO
  iapply HF
  unfold drnA
  rw [if_pos h]
  isplitl [Hz]; · iexact Hz
  ihave Hp := (Entails.of_eq (rest_send m ρ c j h)) $$ Hpay
  iexact Hp

/-! ## The guarded steps

Each: a conditional whose condition says what the family's guard says, whose true branch is the family's operation followed
by the rest `x` of the program and whose false branch is the rest. -/

section Guards
variable {α : Type} {c : Dev nD} {p : Prop} [Decidable p] {n : ℕ}
  {T : p → Prog (TpuEff nD τ sig (Elt F) Λ₀ .tc) α} {E : ¬p → Prog (TpuEff nD τ sig (Elt F) Λ₀ .tc) α}
  {x : Prog (TpuEff nD τ sig (Elt F) Λ₀ .tc) α}

/-- The guarded signal to the device of number `n`, taken or not. -/
theorem guard_sig {R : sProp 𝕄} {Q : α → sProp 𝕄} {d : p → Dev nD} (hE : ∀ h, E h = x) (hT : ∀ h, T h = semSignalWord (d h) barS 1#32 >>= fun _ => x)
    (hn : n < 32) (hp : p ↔ n < c.val) (hd : ∀ h, (d h).val = n) (rest : iprop(R ∗ Sig m ρ c (n + 1)) ⊢ WP c x Q) :
    iprop(R ∗ Sig m ρ c n) ⊢ WP c (dite p T E) Q :=
  wp_guard hE hT (fun h => sig_step m ρ c ⟨n, hn⟩ (d h) (Fin.ext (hd h)) (hp.mp h)) (fun h => sig_skip m ρ c n fun h' => h (hp.mpr h')) rest

/-- The guarded barrier wait for the device of number `n`, taken or not. -/
theorem guard_wt {R : sProp 𝕄} {Q : α → sProp 𝕄} (hE : ∀ h, E h = x) (hT : ∀ h, T h = semWaitWord barS 1#32 >>= fun _ => x)
    (hn : n < 32) (hp : p ↔ c.val < n) (rest : iprop(R ∗ Wt m ρ c (n + 1)) ⊢ WP c x Q) :
    iprop(R ∗ Wt m ρ c n) ⊢ WP c (dite p T E) Q :=
  wp_guard hE hT (fun h => wt_step m ρ c ⟨n, hn⟩ (hp.mp h)) (fun h => wt_skip m ρ c ⟨n, hn⟩ fun h' => h (hp.mpr h')) rest

/-- The last guarded barrier wait, taken or not: the barrier is passed. -/
theorem guard_wt_last {R : sProp 𝕄} {Q : α → sProp 𝕄} (hE : ∀ h, E h = x) (hT : ∀ h, T h = semWaitWord barS 1#32 >>= fun _ => x)
    (hp : p ↔ c.val < 31) (rest : iprop(R ∗ Barred m ρ c) ⊢ WP c x Q) :
    iprop(R ∗ Wt m ρ c 31) ⊢ WP c (dite p T E) Q :=
  wp_guard hE hT (fun h => wt_last m ρ c ⟨31, by decide⟩ (hp.mp h) rfl) (fun h => wt_last_skip m ρ c ⟨31, by decide⟩ (fun h' => h (hp.mpr h')) rfl) rest

/-- The guarded copy to the device of number `n`, taken or not. -/
theorem guard_snd {R : sProp 𝕄} {Q : α → sProp 𝕄} {d : p → Dev nD} {oS oV : p → Fin 1 → ℕ} {oD : p → Fin 3 → ℕ}
    {iS : ∀ h, ∀ a, oS h a + S1.size a ≤ S32.size a} {iV : ∀ h, ∀ a, oV h a + S1.size a ≤ S32.size a}
    {iD : ∀ h, ∀ a, oD h a + S1x1x1024.size a ≤ S32x1x1024.size a}
    {hsc : ∀ h, ((rM.slice (Rect.unit (s := S32x1x1024) (oD h) S1x1x1024.size (iD h)) (fun _ => rfl)).squeeze S1x1024 squeezes_S1x1x1024_S1x1024).view.ref.isScScratch = false}
    {hw : p → (aM : Memref sig .tc .vmem S1x1024 .f32).view.WordExact}
    {hw' : ∀ h, ((rM.slice (Rect.unit (s := S32x1x1024) (oD h) S1x1x1024.size (iD h)) (fun _ => rfl)).squeeze S1x1024 squeezes_S1x1x1024_S1x1024).view.WordExact}
    {hty : ∀ h, DmaTarget.Typed .vmem (.dma ((cc0_scratch4.slice (Rect.unit (s := S32) (oV h) S1.size (iV h))).squeeze S_ squeezes_S1_S_).sem)
      (.remote (Dev.tc (d h) : Thread nD τ) ((rM.slice (Rect.unit (s := S32x1x1024) (oD h) S1x1x1024.size (iD h)) (fun _ => rfl)).squeeze S1x1024 squeezes_S1x1x1024_S1x1024)
        (.dma ((cc0_scratch3.slice (Rect.unit (s := S32) (oS h) S1.size (iS h))).squeeze S_ squeezes_S1_S_).sem) (hsc h))}
    (hE : ∀ h, E h = x)
    (hT : ∀ h, T h = Prog.lift (.enqueueDma aM (.remote (Dev.tc (d h) : Thread nD τ)
        ((rM.slice (Rect.unit (s := S32x1x1024) (oD h) S1x1x1024.size (iD h)) (fun _ => rfl)).squeeze S1x1024 squeezes_S1x1x1024_S1x1024)
        (.dma ((cc0_scratch3.slice (Rect.unit (s := S32) (oS h) S1.size (iS h))).squeeze S_ squeezes_S1_S_).sem) (hsc h))
        (.dma ((cc0_scratch4.slice (Rect.unit (s := S32) (oV h) S1.size (iV h))).squeeze S_ squeezes_S1_S_).sem) (hw h) (hw' h) (hty h)) >>= fun _ => x)
    (hn : n < 32) (hp : p ↔ c.val < n) (hd : ∀ h, (d h).val = n) (hS : ∀ h, oS h = ![n]) (hV : ∀ h, oV h = ![c.val]) (hD : ∀ h, oD h = ![c.val, 0, 0])
    (rest : iprop(R ∗ Snd m ρ c (n + 1)) ⊢ WP c x Q) :
    iprop(R ∗ Snd m ρ c n) ⊢ WP c (dite p T E) Q :=
  wp_guard hE hT (fun h => snd_step m ρ c ⟨n, hn⟩ (d h) (Fin.ext (hd h)) (hp.mp h) (sendS_eq _ _ ⟨n, hn⟩ (hS h)) (recvS_eq _ _ c (hV h)) (slotM_eq _ _ c (hD h)))
    (fun h => snd_skip m ρ c ⟨n, hn⟩ fun h' => h (hp.mpr h')) rest

/-- The guarded receive wait for the device of number `n`, taken or not. -/
theorem guard_rcv {R : sProp 𝕄} {Q : α → sProp 𝕄} {oV : p → Fin 1 → ℕ} {iV : ∀ h, ∀ a, oV h a + S1.size a ≤ S32.size a}
    {src dst : p → Memref sig .tc .vmem S1x1024 .f32} {hw : ∀ h, (src h).view.WordExact} {hw' : ∀ h, (dst h).view.WordExact}
    (hE : ∀ h, E h = x)
    (hT : ∀ h, T h = Prog.lift (.waitDma2 ((cc0_scratch4.slice (Rect.unit (s := S32) (oV h) S1.size (iV h))).squeeze S_ squeezes_S1_S_).sem
      (src h) (dst h) (hw h) (hw' h)) >>= fun _ => x)
    (hn : n < 32) (hp : p ↔ n < c.val) (hV : ∀ h, oV h = ![n]) (hN : ∀ h, (dst h).view.dmaCredit = N)
    (rest : iprop(R ∗ Rcv m ρ c (n + 1)) ⊢ WP c x Q) :
    iprop(R ∗ Rcv m ρ c n) ⊢ WP c (dite p T E) Q :=
  wp_guard hE hT (fun h => rcv_step m ρ c ⟨n, hn⟩ (hp.mp h) (recvS_eq _ _ ⟨n, hn⟩ (hV h)) (hN h))
    (fun h => rcv_skip m ρ c ⟨n, hn⟩ fun h' => h (hp.mpr h')) rest

/-- The guarded send wait for the device of number `n`, taken or not. -/
theorem guard_drn {R : sProp 𝕄} {Q : α → sProp 𝕄} {oS : p → Fin 1 → ℕ} {iS : ∀ h, ∀ a, oS h a + S1.size a ≤ S32.size a}
    {src dst : p → Memref sig .tc .vmem S1x1024 .f32} {hw : ∀ h, (src h).view.WordExact} {hw' : ∀ h, (dst h).view.WordExact}
    (hE : ∀ h, E h = x)
    (hT : ∀ h, T h = Prog.lift (.waitDma2 ((cc0_scratch3.slice (Rect.unit (s := S32) (oS h) S1.size (iS h))).squeeze S_ squeezes_S1_S_).sem
      (src h) (dst h) (hw h) (hw' h)) >>= fun _ => x)
    (hn : n < 32) (hp : p ↔ c.val < n) (hS : ∀ h, oS h = ![n]) (hN : ∀ h, (dst h).view.dmaCredit = N)
    (rest : iprop(R ∗ Drn m ρ c (n + 1)) ⊢ WP c x Q) :
    iprop(R ∗ Drn m ρ c n) ⊢ WP c (dite p T E) Q :=
  wp_guard hE hT (fun h => drn_step m ρ c ⟨n, hn⟩ (hp.mp h) (sendS_eq _ _ ⟨n, hn⟩ (hS h)) (hN h))
    (fun h => drn_skip m ρ c ⟨n, hn⟩ fun h' => h (hp.mpr h')) rest

end Guards

/-! ## The conditions the program computes from its device number as it goes -/

/-- The program's own position: its device number. -/
abbrev pos (c : Dev nD) : BitVec 32 := Scalar.remsi (Scalar.divsi (Dev.word c) 1#32) 32#32

/-- The program's comparison of its device's number with a later one. -/
theorem slt_iff (c j : Dev nD) :
    Scalar.cmpi .ne (Scalar.extui (Scalar.cmpi .slt (pos c) (BitVec.ofNat 32 j.val))) 0#32 = 1#1 ↔ c.val < j.val := by
  revert c j; decide
/-- The program's comparison of its device's number with an earlier one. -/
theorem sgt_iff (c j : Dev nD) :
    Scalar.cmpi .ne (Scalar.extui (Scalar.cmpi .sgt (pos c) (BitVec.ofNat 32 j.val))) 0#32 = 1#1 ↔ j.val < c.val := by
  revert c j; decide

end Cert.KernelIdeal.Scan

end
-- ==== Proof.Blocks.lean ====
/-
  The eight blocks of 256 rows a block of 2048 rows is cut into, and the loads and stores of single blocks: an array is
  the assembly of its blocks, a load of block `k` reads block `k`, and a store of block `k` replaces it.  The compute
  stretches of the kernel are then runs over the eight blocks as values.
-/
module

public import proofs.«01_k».proof.Proof.Steps
public import Idealize.ShloMosaic.Lib.WritesUnit

@[expose] public section

set_option maxRecDepth 16384

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Blocks of an array -/

section Geometry
variable {α : Type}

/-- The rows of block `k`. -/
def blkOff (k : Fin 8) : Fin 2 → ℕ := ![256 * k.val, 0]
/-- A block of 256 rows lies inside the array. -/
theorem blkOff_inb (k : Fin 8) : ∀ a, blkOff k a + S256x1024.size a ≤ S2048x1024.size a := by revert k; decide
/-- Block `k` of the array, as a rectangle. -/
abbrev blkR (k : Fin 8) : Rect S2048x1024 := Rect.unit (s := S2048x1024) (blkOff k) S256x1024.size (blkOff_inb k)

/-- Block `k` of an array. -/
def blkOf (f : S2048x1024.Idx → α) (k : Fin 8) : S256x1024.Idx → α := fun j => f ((blkR k).emb j)

/-- The block an index lies in, and where in it. -/
def blkNo (i : S2048x1024.Idx) : Fin 8 := ⟨(i 0).val / 256, by have : (i 0).val < 2048 := (i 0).isLt; omega⟩
/-- An index lies in the block that its row belongs to. -/
theorem blkNo_mem (i : S2048x1024.Idx) (a : Fin 2) : blkOff (blkNo i) a ≤ (i a).val ∧ (i a).val < blkOff (blkNo i) a + S256x1024.size a := by
  fin_cases a
  · show 256 * ((i 0).val / 256) ≤ (i 0).val ∧ (i 0).val < 256 * ((i 0).val / 256) + 256
    omega
  · show 0 ≤ (i 1).val ∧ (i 1).val < 0 + 1024
    have : (i 1).val < 1024 := (i 1).isLt
    omega
/-- The place of an index inside its block. -/
def blkLoc (i : S2048x1024.Idx) : S256x1024.Idx := Rect.unitLocal (s := S2048x1024) (off := blkOff (blkNo i)) (size := S256x1024.size) i (blkNo_mem i)

/-- The place of an index inside its block, put back into the array, is the index. -/
theorem emb_blkLoc (i : S2048x1024.Idx) : (blkR (blkNo i)).emb (blkLoc i) = i := funext fun a => Fin.ext (by
  show blkOff (blkNo i) a + 1 * ((i a).val - blkOff (blkNo i) a) = (i a).val
  have := (blkNo_mem i a).1; omega)

/-- Row `j` of block `k` is row `256 k + j` of the array. -/
theorem emb_val0 (k : Fin 8) (j : S256x1024.Idx) : ((blkR k).emb j (0 : Fin 2)).val = 256 * k.val + (j (0 : Fin 2)).val := by
  show 256 * k.val + 1 * _ = _; omega

/-- A block keeps the columns. -/
theorem emb_val1 (k : Fin 8) (j : S256x1024.Idx) : ((blkR k).emb j (1 : Fin 2)).val = (j (1 : Fin 2)).val := by
  show 0 + 1 * _ = _; omega

/-- An index of block `k` belongs to block `k`. -/
theorem blkNo_emb (k : Fin 8) (j : S256x1024.Idx) : blkNo ((blkR k).emb j) = k := Fin.ext (by
  show ((blkR k).emb j (0 : Fin 2)).val / 256 = k.val
  rw [emb_val0]
  have : (j (0 : Fin 2)).val < 256 := (j (0 : Fin 2)).isLt
  omega)

/-- The place inside its block of an index of block `k`. -/
theorem blkLoc_emb (k : Fin 8) (j : S256x1024.Idx) : blkLoc ((blkR k).emb j) = j := by
  have h := emb_blkLoc ((blkR k).emb j)
  rw [blkNo_emb] at h
  exact (blkR k).emb.injective h

/-- The array whose blocks are `b`. -/
def asm (b : Fin 8 → S256x1024.Idx → α) : S2048x1024.Idx → α := fun i => b (blkNo i) (blkLoc i)

/-- A block of the array put together from blocks is that block. -/
theorem blkOf_asm (b : Fin 8 → S256x1024.Idx → α) (k : Fin 8) : blkOf (asm b) k = b k := funext fun j => by
  show b (blkNo _) (blkLoc _) = _
  rw [blkLoc_emb, blkNo_emb]
/-- The array put together from its own blocks is the array. -/
theorem asm_blkOf (f : S2048x1024.Idx → α) : asm (blkOf f) = f := funext fun i => congrArg f (emb_blkLoc i)

end Geometry

/-! ## Loads and stores of blocks -/

/-- The result's buffer, owned whole, with contents `f`. -/
abbrev oPts (c : Dev nD) (f : Buf (Elt F) ((c : Thread nD τ).loc cc0_stg1_0)) : sProp 𝕄 := ((c : Thread nD τ).loc cc0_stg1_0) ↦{fullShare} f
/-- The argument's buffer, owned whole, with contents `f`. -/
abbrev xPts (c : Dev nD) (f : Buf (Elt F) ((c : Thread nD τ).loc cc0_stg0_0)) : sProp 𝕄 := ((c : Thread nD τ).loc cc0_stg0_0) ↦{fullShare} f
/-- The scratch copy of the argument, owned whole, with contents `f`. -/
abbrev bPts (c : Dev nD) (f : Buf (Elt F) ((c : Thread nD τ).loc cc0_scratch0)) : sProp 𝕄 := ((c : Thread nD τ).loc cc0_scratch0) ↦{fullShare} f
/-- The buffer of the column sums, owned whole, with contents `f`. -/
abbrev aPts (c : Dev nD) (f : Buf (Elt F) ((c : Thread nD τ).loc cc0_scratch1)) : sProp 𝕄 := ((c : Thread nD τ).loc cc0_scratch1) ↦{fullShare} f
/-- The buffer the column sums of the other devices land in, owned whole, with contents `f`. -/
abbrev rPts (c : Dev nD) (f : Buf (Elt F) ((c : Thread nD τ).loc cc0_scratch2)) : sProp 𝕄 := ((c : Thread nD τ).loc cc0_scratch2) ↦{fullShare} f

/-- The state of a compute stretch: the copy of the input at `g`, the output assembled from the blocks `b`. -/
def Cmp (c : Dev nD) (g : S2048x1024.Idx → Elt F .bf16) (b : Fin 8 → S256x1024.Idx → Elt F .bf16) : sProp 𝕄 :=
  iprop(bPts (F := F) c g ∗ oPts (F := F) c (asm b))

/-- A load of block `k` from the result's buffer gives that block of its contents. -/
theorem read_blk (f : S2048x1024.Idx → Elt F .bf16) (k : Fin 8) : (oM : Memref sig .tc .vmem S2048x1024 .bf16).view.readAt (Elt F) (blkR k).toLoadRect f = blkOf f k := rfl
/-- A load of block `k` from the scratch copy of the argument gives that block of its contents. -/
theorem read_blk' (f : S2048x1024.Idx → Elt F .bf16) (k : Fin 8) : (bM : Memref sig .tc .vmem S2048x1024 .bf16).view.readAt (Elt F) (blkR k).toLoadRect f = blkOf f k := rfl

/-- A store of block `k` into the result's buffer replaces that block of its contents. -/
theorem write_blk (b : Fin 8 → S256x1024.Idx → Elt F .bf16) (k : Fin 8) (w : S256x1024.Idx → Elt F .bf16) :
    ((oM : Memref sig .tc .vmem S2048x1024 .bf16).access (blkR k) : View sig .tc _ _ _).write (Elt F) (asm b) w Finset.univ = asm (Function.update b k w) := by
  funext i
  by_cases h : blkNo i = k
  · have hi : ((oM : Memref sig .tc .vmem S2048x1024 .bf16).access (blkR k) : View sig .tc _ _ _).emb (blkLoc i) = i := by
      rw [← h]; exact emb_blkLoc i
    have e := View.write_emb_of_mem (Val := Elt F) (v := ((oM : Memref sig .tc .vmem S2048x1024 .bf16).access (blkR k))) (asm b) w
      (Finset.mem_univ (blkLoc i))
    rw [hi] at e
    refine e.trans ?_
    show _ = Function.update b k w (blkNo i) (blkLoc i)
    rw [h, Function.update_self]
    rfl
  · refine (View.write_of_not_mem (Val := Elt F) (v := ((oM : Memref sig .tc .vmem S2048x1024 .bf16).access (blkR k))) (asm b) w Finset.univ ?_).trans ?_
    · intro hm
      simp only [View.setOn, Finset.mem_map, Finset.mem_univ, true_and] at hm
      obtain ⟨j, hj⟩ := hm
      exact h (by rw [← hj]; exact blkNo_emb k j)
    · show b (blkNo i) (blkLoc i) = Function.update b k w (blkNo i) (blkLoc i)
      rw [Function.update_of_ne h]

section Rules
variable {α : Type} {c : Dev nD} {g : S2048x1024.Idx → Elt F .bf16} {b : Fin 8 → S256x1024.Idx → Elt F .bf16}
  {off : Fin 2 → ℕ} {inb : ∀ a, off a + S256x1024.size a ≤ S2048x1024.size a}

/-- A load of block `k` of the copy of the input. -/
theorem ld_b {R : sProp 𝕄} {Q : α → sProp 𝕄} {h : (bM : Memref sig .tc .vmem S2048x1024 .bf16).view.LoadsAt (Rect.unit (s := S2048x1024) off S256x1024.size inb).toLoadRect}
    {K : Vec F S256x1024 .bf16 → Prog (TpuEff nD τ sig (Elt F) Λ₀ .tc) α} (k : Fin 8) (ho : off = blkOff k)
    (rest : iprop(R ∗ Cmp c g b) ⊢ WP c (K (blkOf g k)) Q) :
    iprop(R ∗ Cmp c g b) ⊢ WP c (Prog.lift (.load bM (Rect.unit (s := S2048x1024) off S256x1024.size inb).toLoadRect h) >>= K) Q := by
  subst ho
  simp only [Prog.lift, Prog.bind_op, Prog.bind_ret]
  unfold Cmp at rest ⊢
  iintro ⟨HR, Hb, Ho⟩
  iapply (wp_load 𝒱₀ (c : Thread nD τ) none Set.univ (m := bM) (Finset.subset_univ _)) $$ Hb
  iintro Hb
  iapply rest
  isplitl [HR]; · iexact HR
  isplitl [Hb] <;> iassumption

/-- A load of block `k` of the output. -/
theorem ld_o {R : sProp 𝕄} {Q : α → sProp 𝕄} {h : (oM : Memref sig .tc .vmem S2048x1024 .bf16).view.LoadsAt (Rect.unit (s := S2048x1024) off S256x1024.size inb).toLoadRect}
    {K : Vec F S256x1024 .bf16 → Prog (TpuEff nD τ sig (Elt F) Λ₀ .tc) α} (k : Fin 8) (ho : off = blkOff k)
    (rest : iprop(R ∗ Cmp c g b) ⊢ WP c (K (b k)) Q) :
    iprop(R ∗ Cmp c g b) ⊢ WP c (Prog.lift (.load oM (Rect.unit (s := S2048x1024) off S256x1024.size inb).toLoadRect h) >>= K) Q := by
  subst ho
  rw [← blkOf_asm b k] at rest
  simp only [Prog.lift, Prog.bind_op, Prog.bind_ret]
  unfold Cmp at rest ⊢
  iintro ⟨HR, Hb, Ho⟩
  iapply (wp_load 𝒱₀ (c : Thread nD τ) none Set.univ (m := oM) (Finset.subset_univ _)) $$ Ho
  iintro Ho
  iapply rest
  isplitl [HR]; · iexact HR
  isplitl [Hb] <;> iassumption

/-- A store of block `k` of the output. -/
theorem st_o {R : sProp 𝕄} {Q : α → sProp 𝕄} {w : FVec F S256x1024 .bf16}
    {hx : ((oM : Memref sig .tc .vmem S2048x1024 .bf16).access (Rect.unit (s := S2048x1024) off S256x1024.size inb)).Stores Finset.univ}
    {hm : (Finset.univ : Finset (Rect.unit (s := S2048x1024) off S256x1024.size inb).shape.Idx) = Finset.univ ∨ ∀ a, (Rect.unit (s := S2048x1024) off S256x1024.size inb).stride a = 1}
    {K : PUnit → Prog (TpuEff nD τ sig (Elt F) Λ₀ .tc) α} (k : Fin 8) (ho : off = blkOff k)
    (rest : iprop(R ∗ Cmp c g (Function.update b k w)) ⊢ WP c (K ⟨⟩) Q) :
    iprop(R ∗ Cmp c g b) ⊢ WP c (Prog.lift (.store oM (Rect.unit (s := S2048x1024) off S256x1024.size inb) w Finset.univ hx hm) >>= K) Q := by
  subst ho
  simp only [Prog.lift, Prog.bind_op, Prog.bind_ret]
  unfold Cmp at rest ⊢
  iintro ⟨HR, Hb, Ho⟩
  iapply (wp_store 𝒱₀ (c : Thread nD τ) none Set.univ (m := oM) (r := blkR k) (Mk := Finset.univ) (Finset.subset_univ _)) $$ Ho
  rw [write_blk]
  iintro Ho
  iapply rest
  isplitl [HR]; · iexact HR
  isplitl [Hb] <;> iassumption

end Rules

end Cert.KernelIdeal.Scan

end
-- ==== Proof.Whole.lean ====
module

public import proofs.«01_k».proof.Proof.Blocks

@[expose] public section

set_option maxRecDepth 65536

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The parts of the program at the buffers it runs on, and loads and stores of a whole buffer. -/

/-- A part of the kernel at the buffers the kernel runs on. -/
abbrev onBufs {β : Type*} (f : (arg0 : Memref sig .tc .vmem S2048x1024 .bf16) → arg0.IsWhole → (arg1 : Memref sig .tc .vmem S2048x1024 .bf16) → arg1.IsWhole →
    (arg2 : Memref sig .tc .vmem S2048x1024 .bf16) → arg2.IsWhole → (arg3 : Memref sig .tc .vmem S1x1024 .f32) → arg3.IsWhole →
    (arg4 : Memref sig .tc .vmem S32x1x1024 .f32) → arg4.IsWhole → DmaSems sig S32 → DmaSems sig S32 → β) : β :=
  f xM (Memref.isWhole_whole _) oM (Memref.isWhole_whole _) bM (Memref.isWhole_whole _) aM (Memref.isWhole_whole _) rM (Memref.isWhole_whole _)
    cc0_scratch3 cc0_scratch4

/-- The barrier's semaphore as the program passes it on. -/
abbrev barA : Sems sig S_ := SemArray.scalar (sig.barrier 0 rfl)

/-- A program that is done. -/
theorem wp_done {α : Type} {P : sProp 𝕄} {Q : α → sProp 𝕄} {v : α} (h : P ⊢ Q v) : P ⊢ WP (F := F) c (Prog.ret v) Q := by
  show P ⊢ wp _ _ _ _ _
  rw [wp_ret]; exact h.trans fupd_intro

/-- The origin of a plane. -/
theorem zero2 : (![0, 0] : Fin 2 → ℕ) = fun _ => 0 := funext fun a => by fin_cases a <;> rfl
/-- The origin of a space. -/
theorem zero3 : (![0, 0, 0] : Fin 3 → ℕ) = fun _ => 0 := funext fun a => by fin_cases a <;> rfl

section Rules
variable {α : Type} {c}

/-- A load of the whole input block. -/
theorem ld_x {P P' : sProp 𝕄} {Q : α → sProp 𝕄} {f : Buf (Elt F) ((c : Thread nD τ).loc cc0_stg0_0)} {inb : ∀ a, (![0, 0] : Fin 2 → ℕ) a + S2048x1024.size a ≤ S2048x1024.size a}
    {h : (xM : Memref sig .tc .vmem S2048x1024 .bf16).view.LoadsAt (Rect.unit (s := S2048x1024) ![0, 0] S2048x1024.size inb).toLoadRect}
    {K : Vec F S2048x1024 .bf16 → Prog (TpuEff nD τ sig (Elt F) Λ₀ .tc) α}
    (hP : P ⊢ iprop(P' ∗ xPts c f)) (rest : iprop(P' ∗ xPts c f) ⊢ WP c (K f) Q) :
    P ⊢ WP c (Prog.lift (.load xM (Rect.unit (s := S2048x1024) ![0, 0] S2048x1024.size inb).toLoadRect h) >>= K) Q := by
  refine hP.trans ?_
  have rest' : iprop(P' ∗ xPts c f) ⊢ WP c (K ((xM : Memref sig .tc .vmem S2048x1024 .bf16).view.readAt (Elt F) (Rect.unit (s := S2048x1024) ![0, 0] S2048x1024.size inb).toLoadRect f)) Q := by
    have e := Memref.readAt_unit_zero (Elt F) cc0_stg0_0 zero2 inb f
    exact (congrArg (fun v => iprop(P' ∗ xPts c f) ⊢ WP c (K v) Q) e).mpr rest
  simp only [Prog.lift, Prog.bind_op, Prog.bind_ret]
  iintro ⟨HR, Hb⟩
  iapply (wp_load 𝒱₀ (c : Thread nD τ) none Set.univ (m := xM) (Finset.subset_univ _)) $$ Hb
  iintro Hb
  iapply rest'
  isplitl [HR] <;> iassumption

/-- A load of the column-sum buffer. -/
theorem ld_a {P P' : sProp 𝕄} {Q : α → sProp 𝕄} {f : Buf (Elt F) ((c : Thread nD τ).loc cc0_scratch1)} {inb : ∀ a, (![0, 0] : Fin 2 → ℕ) a + S1x1024.size a ≤ S1x1024.size a}
    {h : (aM : Memref sig .tc .vmem S1x1024 .f32).view.LoadsAt (Rect.unit (s := S1x1024) ![0, 0] S1x1024.size inb).toLoadRect}
    {K : Vec F S1x1024 .f32 → Prog (TpuEff nD τ sig (Elt F) Λ₀ .tc) α}
    (hP : P ⊢ iprop(P' ∗ aPts c f)) (rest : iprop(P' ∗ aPts c f) ⊢ WP c (K f) Q) :
    P ⊢ WP c (Prog.lift (.load aM (Rect.unit (s := S1x1024) ![0, 0] S1x1024.size inb).toLoadRect h) >>= K) Q := by
  refine hP.trans ?_
  have rest' : iprop(P' ∗ aPts c f) ⊢ WP c (K ((aM : Memref sig .tc .vmem S1x1024 .f32).view.readAt (Elt F) (Rect.unit (s := S1x1024) ![0, 0] S1x1024.size inb).toLoadRect f)) Q := by
    have e := Memref.readAt_unit_zero (Elt F) cc0_scratch1 zero2 inb f
    exact (congrArg (fun v => iprop(P' ∗ aPts c f) ⊢ WP c (K v) Q) e).mpr rest
  simp only [Prog.lift, Prog.bind_op, Prog.bind_ret]
  iintro ⟨HR, Hb⟩
  iapply (wp_load 𝒱₀ (c : Thread nD τ) none Set.univ (m := aM) (Finset.subset_univ _)) $$ Hb
  iintro Hb
  iapply rest'
  isplitl [HR] <;> iassumption

/-- A store of the column-sum buffer. -/
theorem st_a {P P' : sProp 𝕄} {Q : α → sProp 𝕄} {f : Buf (Elt F) ((c : Thread nD τ).loc cc0_scratch1)} {inb : ∀ a, (![0, 0] : Fin 2 → ℕ) a + S1x1024.size a ≤ S1x1024.size a}
    {w : FVec F S1x1024 .f32}
    {hx : ((aM : Memref sig .tc .vmem S1x1024 .f32).access (Rect.unit (s := S1x1024) ![0, 0] S1x1024.size inb)).Stores Finset.univ}
    {hm : (Finset.univ : Finset (Rect.unit (s := S1x1024) ![0, 0] S1x1024.size inb).shape.Idx) = Finset.univ ∨ ∀ a, (Rect.unit (s := S1x1024) ![0, 0] S1x1024.size inb).stride a = 1}
    {K : PUnit → Prog (TpuEff nD τ sig (Elt F) Λ₀ .tc) α}
    (hP : P ⊢ iprop(P' ∗ aPts c f)) (rest : iprop(P' ∗ aPts c w) ⊢ WP c (K ⟨⟩) Q) :
    P ⊢ WP c (Prog.lift (.store aM (Rect.unit (s := S1x1024) ![0, 0] S1x1024.size inb) w Finset.univ hx hm) >>= K) Q := by
  refine hP.trans ?_
  simp only [Prog.lift, Prog.bind_op, Prog.bind_ret]
  iintro ⟨HR, Hb⟩
  iapply (wp_store 𝒱₀ (c : Thread nD τ) none Set.univ (m := aM) (r := Rect.unit (s := S1x1024) ![0, 0] S1x1024.size inb) (Mk := Finset.univ) (Finset.subset_univ _)) $$ Hb
  have e : ((aM : Memref sig .tc .vmem S1x1024 .f32).access (Rect.unit (s := S1x1024) ![0, 0] S1x1024.size inb) : View sig .tc _ _ _).write (Elt F) f w Finset.univ = w := Memref.write_access_unit_zero_univ (Elt F) cc0_scratch1 zero2 inb f w
  rw [e]
  iintro Hb
  iapply rest
  isplitl [HR] <;> iassumption

/-- A load of the whole landing buffer. -/
theorem ld_r {P P' : sProp 𝕄} {Q : α → sProp 𝕄} {f : Buf (Elt F) ((c : Thread nD τ).loc cc0_scratch2)} {inb : ∀ a, (![0, 0, 0] : Fin 3 → ℕ) a + S32x1x1024.size a ≤ S32x1x1024.size a}
    {h : (rM : Memref sig .tc .vmem S32x1x1024 .f32).view.LoadsAt (Rect.unit (s := S32x1x1024) ![0, 0, 0] S32x1x1024.size inb).toLoadRect}
    {K : Vec F S32x1x1024 .f32 → Prog (TpuEff nD τ sig (Elt F) Λ₀ .tc) α}
    (hP : P ⊢ iprop(P' ∗ rPts c f)) (rest : iprop(P' ∗ rPts c f) ⊢ WP c (K f) Q) :
    P ⊢ WP c (Prog.lift (.load rM (Rect.unit (s := S32x1x1024) ![0, 0, 0] S32x1x1024.size inb).toLoadRect h) >>= K) Q := by
  refine hP.trans ?_
  have rest' : iprop(P' ∗ rPts c f) ⊢ WP c (K ((rM : Memref sig .tc .vmem S32x1x1024 .f32).view.readAt (Elt F) (Rect.unit (s := S32x1x1024) ![0, 0, 0] S32x1x1024.size inb).toLoadRect f)) Q := by
    have e := Memref.readAt_unit_zero (Elt F) cc0_scratch2 zero3 inb f
    exact (congrArg (fun v => iprop(P' ∗ rPts c f) ⊢ WP c (K v) Q) e).mpr rest
  simp only [Prog.lift, Prog.bind_op, Prog.bind_ret]
  iintro ⟨HR, Hb⟩
  iapply (wp_load 𝒱₀ (c : Thread nD τ) none Set.univ (m := rM) (Finset.subset_univ _)) $$ Hb
  iintro Hb
  iapply rest'
  isplitl [HR] <;> iassumption

variable {g : S2048x1024.Idx → Elt F .bf16} {b : Fin 8 → S256x1024.Idx → Elt F .bf16}

/-- A load of the whole copy of the input. -/
theorem ld_bw {R : sProp 𝕄} {Q : α → sProp 𝕄} {inb : ∀ a, (![0, 0] : Fin 2 → ℕ) a + S2048x1024.size a ≤ S2048x1024.size a}
    {h : (bM : Memref sig .tc .vmem S2048x1024 .bf16).view.LoadsAt (Rect.unit (s := S2048x1024) ![0, 0] S2048x1024.size inb).toLoadRect}
    {K : Vec F S2048x1024 .bf16 → Prog (TpuEff nD τ sig (Elt F) Λ₀ .tc) α}
    (rest : iprop(R ∗ Cmp c g b) ⊢ WP c (K g) Q) :
    iprop(R ∗ Cmp c g b) ⊢ WP c (Prog.lift (.load bM (Rect.unit (s := S2048x1024) ![0, 0] S2048x1024.size inb).toLoadRect h) >>= K) Q := by
  have rest' : iprop(R ∗ Cmp c g b) ⊢ WP c (K ((bM : Memref sig .tc .vmem S2048x1024 .bf16).view.readAt (Elt F) (Rect.unit (s := S2048x1024) ![0, 0] S2048x1024.size inb).toLoadRect g)) Q := by
    have e := Memref.readAt_unit_zero (Elt F) cc0_scratch0 zero2 inb g
    exact (congrArg (fun v => iprop(R ∗ Cmp c g b) ⊢ WP c (K v) Q) e).mpr rest
  simp only [Prog.lift, Prog.bind_op, Prog.bind_ret]
  unfold Cmp at rest' ⊢
  iintro ⟨HR, Hb, Ho⟩
  iapply (wp_load 𝒱₀ (c : Thread nD τ) none Set.univ (m := bM) (Finset.subset_univ _)) $$ Hb
  iintro Hb
  iapply rest'
  isplitl [HR]; · iexact HR
  isplitl [Hb] <;> iassumption

/-- The copy of the input is stored. -/
theorem st_bw {R : sProp 𝕄} {Q : α → sProp 𝕄} {w : FVec F S2048x1024 .bf16} {inb : ∀ a, (![0, 0] : Fin 2 → ℕ) a + S2048x1024.size a ≤ S2048x1024.size a}
    {hx : ((bM : Memref sig .tc .vmem S2048x1024 .bf16).access (Rect.unit (s := S2048x1024) ![0, 0] S2048x1024.size inb)).Stores Finset.univ}
    {hm : (Finset.univ : Finset (Rect.unit (s := S2048x1024) ![0, 0] S2048x1024.size inb).shape.Idx) = Finset.univ ∨ ∀ a, (Rect.unit (s := S2048x1024) ![0, 0] S2048x1024.size inb).stride a = 1}
    {K : PUnit → Prog (TpuEff nD τ sig (Elt F) Λ₀ .tc) α}
    (rest : iprop(R ∗ Cmp c w b) ⊢ WP c (K ⟨⟩) Q) :
    iprop(R ∗ Cmp c g b) ⊢ WP c (Prog.lift (.store bM (Rect.unit (s := S2048x1024) ![0, 0] S2048x1024.size inb) w Finset.univ hx hm) >>= K) Q := by
  simp only [Prog.lift, Prog.bind_op, Prog.bind_ret]
  unfold Cmp at rest ⊢
  iintro ⟨HR, Hb, Ho⟩
  iapply (wp_store 𝒱₀ (c : Thread nD τ) none Set.univ (m := bM) (r := Rect.unit (s := S2048x1024) ![0, 0] S2048x1024.size inb) (Mk := Finset.univ) (Finset.subset_univ _)) $$ Hb
  have e : ((bM : Memref sig .tc .vmem S2048x1024 .bf16).access (Rect.unit (s := S2048x1024) ![0, 0] S2048x1024.size inb) : View sig .tc _ _ _).write (Elt F) g w Finset.univ = w := Memref.write_access_unit_zero_univ (Elt F) cc0_scratch0 zero2 inb g w
  rw [e]
  iintro Hb
  iapply rest
  isplitl [HR]; · iexact HR
  isplitl [Hb] <;> iassumption

end Rules

end Cert.KernelIdeal.Scan

end
-- ==== Proof.Signals.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! Ready signals to the earlier devices. -/

/-- Reading the device's number. -/
theorem wp_dev {α : Type} {P : sProp 𝕄} {Q : α → sProp 𝕄} {k : Dev nD → Prog (TpuEff nD τ sig (Elt F) Λ₀ .tc) α} (h : P ⊢ WP c (k c) Q) :
    P ⊢ WP c (Prog.lift .deviceId >>= k) Q := by
  simp only [Prog.lift, Prog.bind_op, Prog.bind_ret]
  exact h.trans (Entails.of_eq (wp_deviceId (defs := defs₀ (F := F)) (𝒱 := 𝒱₀) (c := (c : Thread nD τ)) (bd := none) (E := Set.univ)).symm)

/-- The device reads its number and signals devices 0 to 7. -/
theorem part2 {R : sProp 𝕄} {Q : (Σ' (d0 : Dev nD) (v2 : BitVec 32), Sems sig S_) → sProp 𝕄} (rest : iprop(R ∗ Sig m ρ c 8) ⊢ Q ⟨c, pos c, barA⟩) :
    iprop(R ∗ Sig m ρ c 0) ⊢ WP c (onBufs (k0_part2 (F := F))) Q := by
  dsimp only [onBufs]
  rw [k0_part2_eq_skeleton]; unfold k0_part2_skel
  refine wp_dev c ?_
  beta_reduce
  extract_lets -underBinder v0 v1 v2 v3 jp
  refine guard_sig m ρ (fun _ => rfl) (fun _ => rfl) (by decide) (by clear rest; clear_value jp; clear jp v2 v1 v0 v3; revert c; decide) (fun _ => rfl) ?_
  dsimp -zeta only [jp]
  clear jp
  iterate 7
    extract_lets -underBinder jp
    refine guard_sig m ρ (fun _ => rfl) (fun _ => rfl) (by decide) (by clear rest; clear_value jp; clear jp v2 v1 v0 v3; revert c; decide) (fun _ => rfl) ?_
    dsimp -zeta only [jp]
    clear jp
  exact wp_done c rest

/-- Signals to devices 8 to 17. -/
theorem part3 {R : sProp 𝕄} {Q : PUnit → sProp 𝕄} (rest : iprop(R ∗ Sig m ρ c 18) ⊢ Q ⟨⟩) :
    iprop(R ∗ Sig m ρ c 8) ⊢ WP c (onBufs (k0_part3 (F := F)) c (pos c) barA) Q := by
  dsimp only [onBufs]
  rw [k0_part3_eq_skeleton]; unfold k0_part3_skel
  iterate 10
    extract_lets -underBinder jp
    refine guard_sig m ρ (fun _ => rfl) (fun _ => rfl) (by decide) (by clear rest; revert c; decide) (fun _ => rfl) ?_
    dsimp -zeta only [jp]
    clear jp
  exact wp_done c rest

/-- Signals to devices 18 to 27. -/
theorem part4 {R : sProp 𝕄} {Q : PUnit → sProp 𝕄} (rest : iprop(R ∗ Sig m ρ c 28) ⊢ Q ⟨⟩) :
    iprop(R ∗ Sig m ρ c 18) ⊢ WP c (onBufs (k0_part4 (F := F)) c (pos c) barA) Q := by
  dsimp only [onBufs]
  rw [k0_part4_eq_skeleton]; unfold k0_part4_skel
  iterate 10
    extract_lets -underBinder jp
    refine guard_sig m ρ (fun _ => rfl) (fun _ => rfl) (by decide) (by clear rest; revert c; decide) (fun _ => rfl) ?_
    dsimp -zeta only [jp]
    clear jp
  exact wp_done c rest

end Cert.KernelIdeal.Scan

end
-- ==== Proof.Waits.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The last ready signals, the column sums, and the waits for the later devices' signals. -/

/-- What the device holds of its own barrier before the first wait: a credit per later device, at the start of the round. -/
def bar0 : sProp 𝕄 := iprop(cred (tallyAt (barCell c) () (later c 0).card) ∗ atPos ER (barCell c) 0 ∅ 0)

/-- With every signal given, the waits begin. -/
theorem wt_init : iprop(bar0 (F := F) c ∗ Sig m ρ c 32) ⊢ Wt m ρ c 0 := by
  unfold bar0 Sig Wt
  rw [earlier_zero c 32 (by decide), bigSep_empty]
  iintro ⟨⟨Hc, Ha⟩, HR, HO, -⟩
  isplitl [HR]; · iexact HR
  isplitl [HO]; · iexact HO
  isplitl [Hc]; · iexact Hc
  iexists ∅; iexists 0
  isplitr; · ipureintro; exact ⟨Finset.empty_subset _, Nat.zero_add _⟩
  isplitl [Ha]; · iexact Ha
  rw [bigSep_empty]; iempintro

/-- Signals to devices 28 to 31, the column sums, the waits for devices 0 to 3. -/
theorem part5 {R : sProp 𝕄} {Q : BitVec 32 → sProp 𝕄} {g : Buf (Elt F) ((c : Thread nD τ).loc cc0_stg0_0)} {f : Buf (Elt F) ((c : Thread nD τ).loc cc0_scratch1)}
    (rest : iprop((R ∗ xPts c g ∗ aPts c (k0_pay6 g)) ∗ Wt m ρ c 4) ⊢ Q (Scalar.extui (Scalar.cmpi .slt (pos c) 4#32))) :
    iprop((R ∗ xPts c g ∗ aPts c f ∗ bar0 c) ∗ Sig m ρ c 28) ⊢ WP c (onBufs (k0_part5 (F := F)) c (pos c) barA) Q := by
  dsimp only [onBufs]
  rw [k0_part5_eq_skeleton]; unfold k0_part5_skel
  iterate 4
    extract_lets -underBinder jp
    refine guard_sig m ρ (fun _ => rfl) (fun _ => rfl) (by decide) (by clear rest; clear f g; revert c; decide) (fun _ => rfl) ?_
    dsimp -zeta only [jp]
    clear jp
  refine ld_x (P' := iprop((R ∗ aPts c f) ∗ Wt m ρ c 0)) (f := g) ?_ ?_
  · iintro ⟨⟨HR, Hx, Ha, Hb⟩, HS⟩
    isplitr [Hx]
    · isplitl [HR Ha]
      · isplitl [HR] <;> iassumption
      · iapply (wt_init m ρ c)
        isplitl [Hb] <;> iassumption
    · iexact Hx
  refine ld_a (P' := iprop((R ∗ xPts c g) ∗ Wt m ρ c 0)) (f := f) ?_ ?_
  · iintro ⟨⟨⟨HR, Ha⟩, HW⟩, Hx⟩
    isplitr [Ha]
    · isplitl [HR Hx]
      · isplitl [HR] <;> iassumption
      · iexact HW
    · iexact Ha
  refine st_a (f := f) .rfl ?_
  refine BIBase.Entails.trans (Q := iprop((R ∗ xPts c g ∗ aPts c (k0_pay6 g)) ∗ Wt m ρ c 0)) ?_ ?_
  · iintro ⟨⟨⟨HR, Hx⟩, HW⟩, Ha⟩
    isplitr [HW]
    · isplitl [HR]; · iexact HR
      isplitl [Hx] <;> iassumption
    · iexact HW
  iterate 4
    extract_lets -underBinder v1 v2 v3 jp
    refine guard_wt m ρ (fun _ => rfl) (fun _ => rfl) (by decide) (slt_iff c ⟨_, by decide⟩) ?_
    dsimp -zeta only [jp]
    clear jp v3 v2 v1
  exact wp_done c rest

/-- The waits for devices 4 to 13. -/
theorem part6 {R : sProp 𝕄} {Q : BitVec 32 → sProp 𝕄} (rest : iprop(R ∗ Wt m ρ c 14) ⊢ Q (Scalar.extui (Scalar.cmpi .slt (pos c) 14#32))) :
    iprop(R ∗ Wt m ρ c 4) ⊢ WP c (onBufs (k0_part6 (F := F)) (pos c) barA (Scalar.extui (Scalar.cmpi .slt (pos c) 4#32))) Q := by
  dsimp only [onBufs]
  rw [k0_part6_eq_skeleton]; unfold k0_part6_skel
  extract_lets -underBinder v1 jp
  refine guard_wt m ρ (fun _ => rfl) (fun _ => rfl) (by decide) (slt_iff c ⟨_, by decide⟩) ?_
  dsimp -zeta only [jp]
  clear jp v1
  iterate 9
    extract_lets -underBinder v1 v2 v3 jp
    refine guard_wt m ρ (fun _ => rfl) (fun _ => rfl) (by decide) (slt_iff c ⟨_, by decide⟩) ?_
    dsimp -zeta only [jp]
    clear jp v3 v2 v1
  exact wp_done c rest

/-- The waits for devices 14 to 23. -/
theorem part7 {R : sProp 𝕄} {Q : BitVec 32 → sProp 𝕄} (rest : iprop(R ∗ Wt m ρ c 24) ⊢ Q (Scalar.extui (Scalar.cmpi .slt (pos c) 24#32))) :
    iprop(R ∗ Wt m ρ c 14) ⊢ WP c (onBufs (k0_part7 (F := F)) (pos c) barA (Scalar.extui (Scalar.cmpi .slt (pos c) 14#32))) Q := by
  dsimp only [onBufs]
  rw [k0_part7_eq_skeleton]; unfold k0_part7_skel
  extract_lets -underBinder v1 jp
  refine guard_wt m ρ (fun _ => rfl) (fun _ => rfl) (by decide) (slt_iff c ⟨_, by decide⟩) ?_
  dsimp -zeta only [jp]
  clear jp v1
  iterate 9
    extract_lets -underBinder v1 v2 v3 jp
    refine guard_wt m ρ (fun _ => rfl) (fun _ => rfl) (by decide) (slt_iff c ⟨_, by decide⟩) ?_
    dsimp -zeta only [jp]
    clear jp v3 v2 v1
  exact wp_done c rest

end Cert.KernelIdeal.Scan

end
-- ==== Proof.Sends.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The last waits and the first copies. -/

/-- What the device keeps for its copies besides the slots they land in: a share of the column sums and the two tokens, per later device. -/
def sndT : sProp 𝕄 :=
  bigSep (later c 0) (fun j => iprop(sendPay m ρ c j ∗ dutyTok ER (sendCell c j) 0 j ∗ dutyTok ER (recvCell j c) 0 c))

/-- The barrier passed, the copies begin. -/
theorem snd_init : iprop(sndT m ρ c ∗ Barred m ρ c) ⊢ iprop(semVal (barCell c) 0 ∗ Snd m ρ c 0) := by
  unfold sndT Barred Snd
  rw [fam_zero]
  have e : bigSep Finset.univ (sndB m ρ c) = bigSep (later c 0) (fun j => iprop(barPay (F := F) c j
      ∗ (sendPay m ρ c j ∗ dutyTok ER (sendCell c j) 0 j ∗ dutyTok ER (recvCell j c) 0 c))) := by
    have hl : later c 0 = Finset.univ.filter fun j => c < j := Finset.filter_congr fun j _ => by simp
    rw [hl, bigSep_filter]
    exact bigSep_congr fun j _ => rfl
  rw [e, bigSep_sep' (later c 0) (fun j => barPay (F := F) c j)]
  iintro ⟨HT, HR, HO, HB, HV⟩
  isplitl [HV]; · iexact HV
  isplitl [HR]; · iexact HR
  isplitl [HO]; · iexact HO
  isplitl [HB] <;> iassumption

/-- The waits for devices 24 to 31, the copies to devices 0 and 1. -/
theorem part8 {R : sProp 𝕄} {Q : BitVec 32 → sProp 𝕄} (rest : iprop((R ∗ semVal (barCell c) 0) ∗ Snd m ρ c 2) ⊢ Q (Scalar.extui (Scalar.cmpi .slt (pos c) 2#32))) :
    iprop((R ∗ sndT m ρ c) ∗ Wt m ρ c 24) ⊢ WP c (onBufs (k0_part8 (F := F)) c (pos c) barA (Scalar.extui (Scalar.cmpi .slt (pos c) 24#32))) Q := by
  dsimp only [onBufs]
  rw [k0_part8_eq_skeleton]; unfold k0_part8_skel
  extract_lets -underBinder v1 jp
  refine guard_wt m ρ (fun _ => rfl) (fun _ => rfl) (by decide) (slt_iff c ⟨_, by decide⟩) ?_
  dsimp -zeta only [jp]
  clear jp v1
  iterate 6
    extract_lets -underBinder v1 v2 v3 jp
    refine guard_wt m ρ (fun _ => rfl) (fun _ => rfl) (by decide) (slt_iff c ⟨_, by decide⟩) ?_
    dsimp -zeta only [jp]
    clear jp v3 v2 v1
  extract_lets -underBinder v1 v2 v3 jp
  refine guard_wt_last m ρ (fun _ => rfl) (fun _ => rfl) (slt_iff c ⟨_, by decide⟩) ?_
  dsimp -zeta only [jp]
  clear jp v3 v2 v1
  refine BIBase.Entails.trans (Q := iprop((R ∗ semVal (barCell c) 0) ∗ Snd m ρ c 0)) ?_ ?_
  · iintro ⟨⟨HR, HT⟩, HB⟩
    ihave H := (snd_init m ρ c) $$ [HT HB]
    · isplitl [HT] <;> iassumption
    icases H with ⟨HV, HS⟩
    isplitr [HS]
    · isplitl [HR] <;> iassumption
    · iexact HS
  iterate 2
    extract_lets -underBinder jp
    refine guard_snd m ρ (fun _ => rfl) (fun _ => rfl) (by decide) (by clear rest; revert c; decide) (fun _ => rfl) (fun _ => rfl)
      (fun _ => ClosedOff.eq) (fun _ => ClosedOff.eq) ?_
    dsimp -zeta only [jp]
    clear jp
  exact wp_done c rest

/-- The copies to devices 2 to 11. -/
theorem part9 {R : sProp 𝕄} {Q : BitVec 32 → sProp 𝕄} {v : BitVec 32}
    (rest : iprop(R ∗ Snd m ρ c 12) ⊢ Q (Scalar.extui (Scalar.cmpi .slt (pos c) 12#32))) :
    iprop(R ∗ Snd m ρ c 2) ⊢ WP c (onBufs (k0_part9 (F := F)) c (pos c) v) Q := by
  dsimp only [onBufs]
  rw [k0_part9_eq_skeleton]; unfold k0_part9_skel
  iterate 10
    extract_lets -underBinder jp
    refine guard_snd m ρ (fun _ => rfl) (fun _ => rfl) (by decide) (by clear rest; revert c; decide) (fun _ => rfl) (fun _ => rfl)
      (fun _ => ClosedOff.eq) (fun _ => ClosedOff.eq) ?_
    dsimp -zeta only [jp]
    clear jp
  exact wp_done c rest

end Cert.KernelIdeal.Scan

end
-- ==== Proof.SendsB.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The other copies. -/

/-- The copies to devices 12 to 21. -/
theorem part10 {R : sProp 𝕄} {Q : BitVec 32 → sProp 𝕄} {v : BitVec 32}
    (rest : iprop(R ∗ Snd m ρ c 22) ⊢ Q (Scalar.extui (Scalar.cmpi .slt (pos c) 22#32))) :
    iprop(R ∗ Snd m ρ c 12) ⊢ WP c (onBufs (k0_part10 (F := F)) c (pos c) v) Q := by
  dsimp only [onBufs]
  rw [k0_part10_eq_skeleton]; unfold k0_part10_skel
  iterate 10
    extract_lets -underBinder jp
    refine guard_snd m ρ (fun _ => rfl) (fun _ => rfl) (by decide) (by clear rest; revert c; decide) (fun _ => rfl) (fun _ => rfl)
      (fun _ => ClosedOff.eq) (fun _ => ClosedOff.eq) ?_
    dsimp -zeta only [jp]
    clear jp
  exact wp_done c rest

/-- The copies to devices 22 to 31, and the input loaded again. -/
theorem part11 {R : sProp 𝕄} {Q : Vec F S2048x1024 .bf16 → sProp 𝕄} {v : BitVec 32} {g : Buf (Elt F) ((c : Thread nD τ).loc cc0_stg0_0)}
    (rest : iprop((R ∗ xPts c g) ∗ Snd m ρ c 32) ⊢ Q g) :
    iprop((R ∗ xPts c g) ∗ Snd m ρ c 22) ⊢ WP c (onBufs (k0_part11 (F := F)) c (pos c) v) Q := by
  dsimp only [onBufs]
  rw [k0_part11_eq_skeleton]; unfold k0_part11_skel
  iterate 10
    extract_lets -underBinder jp
    refine guard_snd m ρ (fun _ => rfl) (fun _ => rfl) (by decide) (by clear rest; clear g; revert c; decide) (fun _ => rfl) (fun _ => rfl)
      (fun _ => ClosedOff.eq) (fun _ => ClosedOff.eq) ?_
    dsimp -zeta only [jp]
    clear jp
  refine ld_x (P' := iprop(R ∗ Snd m ρ c 32)) (f := g) ?_ ?_
  · iintro ⟨⟨HR, Hx⟩, HS⟩
    isplitr [Hx]
    · isplitl [HR] <;> iassumption
    · iexact Hx
  refine wp_done c (BIBase.Entails.trans ?_ rest)
  iintro ⟨⟨HR, HS⟩, Hx⟩
  isplitr [HS]
  · isplitl [HR] <;> iassumption
  · iexact HS

end Cert.KernelIdeal.Scan

end
-- ==== Proof.Slots.lean ====
module

public import proofs.«01_k».proof.Proof.Whole
public import Idealize.ShloMosaic.Lib.Pipeline.Value
public import Idealize.ShloMosaic.Lib.ValueIdxCore

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The landing buffer cut into its slots, and joined again with what has landed. -/

/-- Every slot at the column sums of the device it belongs to. -/
def land : S32x1x1024.Idx → Elt F .f32 := fun x => total m ρ (⟨(x 0).val, (x 0).isLt⟩ : Dev nD) (ix2 (0 : Fin 1) (x 2 : Fin 1024))

variable {c}

/-- The places of a slot, as those of a rectangle. -/
theorem slot_set (i : Dev nD) : (slotM i).view.set = (Rect.unit (s := S32x1x1024) (slotOff i) S1x1x1024.size (slotOff_inb i)).set :=
  (View.set_reshape _ _).trans (View.set_slice_whole _ _)

/-- A place belongs to slot `i` when its first coordinate is `i`. -/
theorem mem_slot (i : Dev nD) (x : S32x1x1024.Idx) : x ∈ (slotM i).view.set ↔ (x 0).val = i.val := by
  rw [slot_set]
  refine Rect.mem_set_unit.trans ⟨fun h => ?_, fun h a => ?_⟩
  · have h0 : i.val ≤ (x 0).val ∧ (x 0).val < i.val + 1 := h 0
    omega
  · fin_cases a
    · show i.val ≤ (x 0).val ∧ (x 0).val < i.val + 1
      omega
    · show 0 ≤ (x 1).val ∧ (x 1).val < 0 + 1
      have : (x 1).val < 1 := (x 1).isLt
      omega
    · show 0 ≤ (x 2).val ∧ (x 2).val < 0 + 1024
      have : (x 2).val < 1024 := (x 2).isLt
      omega

/-- Different slots have no place in common. -/
theorem slot_disjoint (i j : Dev nD) (h : i ≠ j) : Disjoint (slotM i).view.set (slotM j).view.set :=
  Finset.disjoint_left.mpr fun x hx hy => h (Fin.ext (((mem_slot i x).mp hx).symm.trans ((mem_slot j x).mp hy)))

/-- The slots make up the landing buffer. -/
theorem slot_cover : (Finset.univ.biUnion fun i : Dev nD => (slotM i).view.set) = (Finset.univ : Finset S32x1x1024.Idx) := by
  refine Finset.eq_univ_of_forall fun x => ?_
  exact Finset.mem_biUnion.mpr ⟨(⟨(x 0).val, (x 0).isLt⟩ : Dev nD), Finset.mem_univ _, (mem_slot _ x).mpr rfl⟩

/-- What reading slot `i` gives at an index of the slot. -/
theorem read_slot (i : Dev nD) (f : S32x1x1024.Idx → Elt F .f32) (x : S32x1x1024.Idx) (hx : (x 0).val = i.val) :
    (slotM i).view.read (Elt F) f (ix2 (0 : Fin 1) (x 2 : Fin 1024)) = f x := by
  refine (congrFun (Memref.read_squeeze_slice (Val := Elt F) rM (Rect.unit (s := S32x1x1024) (slotOff i) S1x1x1024.size (slotOff_inb i)) (fun _ => rfl)
    squeezes_S1x1x1024_S1x1024 (show S1x1x1024.ShapeCasts S1x1024 by decide) f) _).trans ?_
  refine (shapeCast_dropUnit_apply ![1, 1024] _ _ _).trans (congrArg f (funext fun a => Fin.ext ?_))
  fin_cases a
  · show i.val + 1 * 0 = (x 0).val
    omega
  · show 0 + 1 * 0 = (x 1).val
    have : (x 1).val < 1 := (x 1).isLt
    omega
  · show 0 + 1 * (x 2).val = (x 2).val
    omega

/-- Contents that read as the column sums of device `i` in slot `i` agree there with the landed sums. -/
theorem land_of_read (i : Dev nD) (f : S32x1x1024.Idx → Elt F .f32) (h : (slotM i).view.read (Elt F) f = total m ρ i) (x : S32x1x1024.Idx) (hx : (x 0).val = i.val) :
    f x = land m ρ x := by
  rw [← read_slot i f x hx, h]
  unfold land
  have e : (⟨(x 0).val, (x 0).isLt⟩ : Dev nD) = i := Fin.ext hx
  rw [e]

/-- The whole landing buffer is its slots. -/
theorem slots_split (f : Buf (Elt F) ((c : Thread nD τ).loc cc0_scratch2)) : rPts c f = bigSep Finset.univ (fun i => slotPts c i f) := by
  have h := pointsTo_biUnion (Ix := Unit) (Name := ℕ) (U := UU) (Lvl := ℕ) (ℓ := (c : Thread nD τ).loc cc0_scratch2) (q := fullShare) (f := f)
    Finset.univ (fun i : Dev nD => (slotM i).view.set) fun i _ j _ h => slot_disjoint i j h
  exact (congrArg (fun S => (((c : Thread nD τ).loc cc0_scratch2) ↦[S]{fullShare} f : sProp 𝕄)) slot_cover.symm).trans h

/-- The slots joined, the earlier devices' holding what they sent. -/
theorem slots_join : bigSep Finset.univ (fun i => iprop(∃ f, ⌜i < c → (slotM i).view.read (Elt F) f = total m ρ i⌝ ∗ slotPts c i f))
    ⊢ iprop(∃ g, ⌜∀ x : S32x1x1024.Idx, (x 0).val < c.val → g x = land m ρ x⌝ ∗ rPts c g) := by
  haveI : Nonempty (S32x1x1024.Idx → Elt F .f32) := ⟨land m ρ⟩
  refine (bigSep_exists_pi (Y := fun _ => S32x1x1024.Idx → Elt F .f32) Finset.univ
    (fun i f => iprop(⌜i < c → (slotM i).view.read (Elt F) f = total m ρ i⌝ ∗ slotPts c i f))).trans ?_
  iintro ⟨%fs, H⟩
  ihave H' := (bigSep_pure_sep Finset.univ (fun i => i < c → (slotM i).view.read (Elt F) (fs i) = total m ρ i) (fun i => slotPts c i (fs i))) $$ H
  icases H' with ⟨%hp, H⟩
  ihave H' := (pointsTo_biUnion_join (Ix := Unit) (Name := ℕ) (U := UU) (Lvl := ℕ) (ℓ := (c : Thread nD τ).loc cc0_scratch2) (q := fullShare)
    Finset.univ (fun i : Dev nD => (slotM i).view.set) fs (land m ρ) fun i _ j _ h => slot_disjoint i j h) $$ [H]
  · iexact H
  icases H' with ⟨%g, %hg, H⟩
  iexists g
  isplitr
  · ipureintro
    intro x hx
    let i : Dev nD := ⟨(x 0).val, (x 0).isLt⟩
    rw [hg i (Finset.mem_univ _) x ((mem_slot i x).mpr rfl)]
    exact land_of_read m ρ i (fs i) (hp i (Finset.mem_univ _) hx) x rfl
  · ihave H' := (Entails.of_eq (congrArg (fun S => (((c : Thread nD τ).loc cc0_scratch2) ↦[S]{fullShare} g : sProp 𝕄)) slot_cover)) $$ H
    iexact H'

/-- The slots the device keeps and those it has got back, as one family. -/
theorem slots_all : iprop(bigSep (Finset.univ.filter fun i : Dev nD => ¬ i < c) (fun i => iprop(∃ f, slotPts c i f)) ∗ bigSep (Finset.univ.filter fun i : Dev nD => i < c) (fun i => recvPay (F := F) m ρ c i))
    ⊢ bigSep Finset.univ (fun i => iprop(∃ f, ⌜i < c → (slotM i).view.read (Elt F) f = total m ρ i⌝ ∗ slotPts c i f)) := by
  have k1 : ∀ i : Dev nD, recvPay (F := F) m ρ c i ⊢ iprop(∃ f, ⌜i < c → (slotM i).view.read (Elt F) f = total m ρ i⌝ ∗ slotPts c i f) := fun i => by
    unfold recvPay
    iintro ⟨%f, %hf, H⟩
    iexists f; isplitr
    · ipureintro; exact fun _ => hf
    · iexact H
  have k2 : ∀ i : Dev nD, ¬ i < c → iprop(∃ f, slotPts (F := F) c i f) ⊢ iprop(∃ f, ⌜i < c → (slotM i).view.read (Elt F) f = total m ρ i⌝ ∗ slotPts c i f) := fun i hi => by
    iintro ⟨%f, H⟩
    iexists f; isplitr
    · ipureintro; exact fun h => absurd h hi
    · iexact H
  have h1 : bigSep (Finset.univ.filter fun i : Dev nD => i < c) (fun i => recvPay (F := F) m ρ c i)
      ⊢ bigSep (Finset.univ.filter fun i : Dev nD => i < c) (fun i => iprop(∃ f, ⌜i < c → (slotM i).view.read (Elt F) f = total m ρ i⌝ ∗ slotPts c i f)) :=
    bigSep_mono fun i _ => k1 i
  have h2 : bigSep (Finset.univ.filter fun i : Dev nD => ¬ i < c) (fun i => iprop(∃ f, slotPts (F := F) c i f))
      ⊢ bigSep (Finset.univ.filter fun i : Dev nD => ¬ i < c) (fun i => iprop(∃ f, ⌜i < c → (slotM i).view.read (Elt F) f = total m ρ i⌝ ∗ slotPts c i f)) :=
    bigSep_mono fun i hi => k2 i (Finset.mem_filter.mp hi).2
  refine BIBase.Entails.trans ?_ (Entails.of_eq (bigSep_filter_split (s := Finset.univ) (fun i : Dev nD => i < c)).symm)
  show _ ⊢ iprop(_ ∗ _)
  iintro ⟨HK, HR⟩
  isplitl [HR]
  · iapply h1 $$ HR
  · iapply h2 $$ HK

end Cert.KernelIdeal.Scan

end
-- ==== Proof.Compute.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The prefix sums of the device's own rows, block by block. -/

/-- What the first pass writes to blocks 0, 1, 2, ..., 7, from the copy of the input. -/
theorem part12 {R : sProp 𝕄} {Q : (Σ' (v310 : FVec F S256x256 .bf16) (v335 : FVec F S1x1024 .f32), Vec F S256x1024 .bf16) → sProp 𝕄}
    {g g' : S2048x1024.Idx → Elt F .bf16} {b : Fin 8 → S256x1024.Idx → Elt F .bf16}
    (rest : iprop(R ∗ Cmp c (k0_pay7 g) (Function.update (Function.update (Function.update b 0 (k0_pay11 (blkOf (k0_pay7 g) 0)))
        1 (k0_pay14 (blkOf (k0_pay7 g) 0) (blkOf (k0_pay7 g) 1))) 2 (k0_pay17 (blkOf (k0_pay7 g) 0) (blkOf (k0_pay7 g) 1) (blkOf (k0_pay7 g) 2))))
      ⊢ Q ⟨k0_pay8, k0_pay18 (blkOf (k0_pay7 g) 0) (blkOf (k0_pay7 g) 1) (blkOf (k0_pay7 g) 2), blkOf (k0_pay7 g) 3⟩) :
    iprop(R ∗ Cmp c g' b) ⊢ WP c (onBufs (k0_part12 (F := F)) g) Q := by
  dsimp only [onBufs]
  rw [k0_part12_eq_skeleton]; unfold k0_part12_skel
  refine ld_bw ?_
  refine st_bw ?_
  refine ld_b 0 rfl ?_
  refine ld_o 0 rfl ?_
  refine st_o 0 rfl ?_
  refine ld_b 1 rfl ?_
  refine ld_o 1 rfl ?_
  refine st_o 1 rfl ?_
  refine ld_b 2 rfl ?_
  refine ld_o 2 rfl ?_
  refine st_o 2 rfl ?_
  refine ld_b 3 rfl ?_
  exact wp_done c rest

/-- What the first pass writes to blocks 3, 4, 5 and 6, and what it computes for block 7. -/
theorem part13 {R : sProp 𝕄} {Q : FVec F S256x1024 .f32 → sProp 𝕄} {t : FVec F S256x256 .bf16} {a : FVec F S1x1024 .f32}
    {g : S2048x1024.Idx → Elt F .bf16} {b : Fin 8 → S256x1024.Idx → Elt F .bf16}
    (rest : iprop(R ∗ Cmp c g (Function.update (Function.update (Function.update (Function.update b 3 (k0_pay20 t a (blkOf g 3)))
        4 (k0_pay23 t a (blkOf g 3) (blkOf g 4))) 5 (k0_pay26 t a (blkOf g 3) (blkOf g 4) (blkOf g 5)))
        6 (k0_pay29 t a (blkOf g 3) (blkOf g 4) (blkOf g 5) (blkOf g 6))))
      ⊢ Q (k0_pay30 t a (blkOf g 3) (blkOf g 4) (blkOf g 5) (blkOf g 6) (blkOf g 7))) :
    iprop(R ∗ Cmp c g b) ⊢ WP c (onBufs (k0_part13 (F := F)) t a (blkOf g 3)) Q := by
  dsimp only [onBufs]
  rw [k0_part13_eq_skeleton]; unfold k0_part13_skel
  refine ld_o 3 rfl ?_
  refine st_o 3 rfl ?_
  refine ld_b 4 rfl ?_
  refine ld_o 4 rfl ?_
  refine st_o 4 rfl ?_
  refine ld_b 5 rfl ?_
  refine ld_o 5 rfl ?_
  refine st_o 5 rfl ?_
  refine ld_b 6 rfl ?_
  refine ld_o 6 rfl ?_
  refine st_o 6 rfl ?_
  refine ld_b 7 rfl ?_
  exact wp_done c rest

/-- The offset is added to blocks 0 to 4. -/
theorem part1 {R : sProp 𝕄} {Q : PUnit → sProp 𝕄} {v : FVec F S1x1024 .f32}
    {g : S2048x1024.Idx → Elt F .bf16} {b : Fin 8 → S256x1024.Idx → Elt F .bf16}
    (rest : iprop(R ∗ Cmp c g (Function.update (Function.update (Function.update (Function.update (Function.update b 0 (k0_pay1 v (b 0)))
        1 (k0_pay2 v (b 1))) 2 (k0_pay3 v (b 2))) 3 (k0_pay4 v (b 3))) 4 (k0_pay5 v (b 4))))
      ⊢ Q ⟨⟩) :
    iprop(R ∗ Cmp c g b) ⊢ WP c (onBufs (k0_part1 (F := F)) v) Q := by
  dsimp only [onBufs]
  rw [k0_part1_eq_skeleton]; unfold k0_part1_skel
  refine ld_o 0 rfl ?_
  refine ld_o 0 rfl ?_
  refine st_o 0 rfl ?_
  refine ld_o 1 rfl ?_
  refine ld_o 1 rfl ?_
  refine st_o 1 rfl ?_
  refine ld_o 2 rfl ?_
  refine ld_o 2 rfl ?_
  refine st_o 2 rfl ?_
  refine ld_o 3 rfl ?_
  refine ld_o 3 rfl ?_
  refine st_o 3 rfl ?_
  refine ld_o 4 rfl ?_
  refine ld_o 4 rfl ?_
  refine st_o 4 rfl ?_
  exact wp_done c rest

end Cert.KernelIdeal.Scan

end
-- ==== Proof.Output.lean ====
module

public import proofs.«01_k».proof.Proof.Slots
public import proofs.«01_k».proof.Proof.Compute

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! What the program leaves in the output: the prefix sums of the device's own rows, block by block, plus the column sums
of the earlier devices. -/

variable {c}

/-- The offset depends on the landed slots of the earlier devices only. -/
theorem offset_eq (V W : S32x1x1024.Idx → Elt F .f32) (h : ∀ x : S32x1x1024.Idx, (x 0).val < c.val → V x = W x) :
    k0_pay32 (pos c) V = k0_pay32 (pos c) W := by
  have e : select (cmpi .slt (iota .tc S32x1024 32 [0] iota_S32x1024_d0_w32) (broadcast S32x1024 (pos c)))
        (shapeCast S32x1024 V shapeCasts_S32x1x1024_S32x1024) (broadcast S32x1024 (Scalar.ofBits (F := F) .f32 0x00000000#32))
      = select (cmpi .slt (iota .tc S32x1024 32 [0] iota_S32x1024_d0_w32) (broadcast S32x1024 (pos c)))
        (shapeCast S32x1024 W shapeCasts_S32x1x1024_S32x1024) (broadcast S32x1024 (Scalar.ofBits (F := F) .f32 0x00000000#32)) := by
    funext j
    rw [select_apply, select_apply]
    have hj : (j 0).val < 32 := (j 0).isLt
    have hj1 : (j 1).val < 1024 := (j 1).isLt
    have hk : (S32x1x1024.rowMajor (ix3 (j 0 : Fin 32) (0 : Fin 1) (j 1 : Fin 1024))).val = (S32x1024.rowMajor j).val := by
      rw [Shape.rowMajor_val_three, Shape.rowMajor_val_two]
      show ((j 0).val * 1 + 0) * 1024 + (j 1).val = (j 0).val * 1024 + (j 1).val
      omega
    rw [shapeCast_apply V _ j _ hk, shapeCast_apply W _ j _ hk]
    by_cases hc : (j 0).val < c.val
    · rw [h _ hc]
    · have h0 : cmpi .slt (iota .tc S32x1024 32 [0] iota_S32x1024_d0_w32) (broadcast S32x1024 (pos c)) j = 0#1 := by
        show Scalar.cmpi .slt (iota .tc S32x1024 32 [0] iota_S32x1024_d0_w32 j) (pos c) = 0#1
        rw [iota_single_apply]
        have key : ∀ (i d : Fin 32), ¬ i.val < d.val → Scalar.cmpi .slt (BitVec.ofNat 32 i.val) (pos (⟨d.val, d.isLt⟩ : Dev nD)) = 0#1 := by decide
        exact key ⟨(j 0).val, hj⟩ ⟨c.val, c.isLt⟩ hc
      rw [h0]; rfl
  unfold k0_pay32
  exact congrArg (fun v => shapeCast S1x1024 (multiReduction .add [0] S1024 v 0x00000000#32 reduces_S32x1024_S1024 (.inl rfl) rfl) shapeCasts_S1024_S1x1024) e

/-- The first pass's blocks, of the rows `g`. -/
def pre (g : S2048x1024.Idx → Elt F .bf16) : Fin 8 → S256x1024.Idx → Elt F .bf16 :=
  ![k0_pay11 (blkOf (k0_pay7 g) 0),
    k0_pay14 (blkOf (k0_pay7 g) 0) (blkOf (k0_pay7 g) 1),
    k0_pay17 (blkOf (k0_pay7 g) 0) (blkOf (k0_pay7 g) 1) (blkOf (k0_pay7 g) 2),
    k0_pay20 k0_pay8 (k0_pay18 (blkOf (k0_pay7 g) 0) (blkOf (k0_pay7 g) 1) (blkOf (k0_pay7 g) 2)) (blkOf (k0_pay7 g) 3),
    k0_pay23 k0_pay8 (k0_pay18 (blkOf (k0_pay7 g) 0) (blkOf (k0_pay7 g) 1) (blkOf (k0_pay7 g) 2)) (blkOf (k0_pay7 g) 3) (blkOf (k0_pay7 g) 4),
    k0_pay26 k0_pay8 (k0_pay18 (blkOf (k0_pay7 g) 0) (blkOf (k0_pay7 g) 1) (blkOf (k0_pay7 g) 2)) (blkOf (k0_pay7 g) 3) (blkOf (k0_pay7 g) 4) (blkOf (k0_pay7 g) 5),
    k0_pay29 k0_pay8 (k0_pay18 (blkOf (k0_pay7 g) 0) (blkOf (k0_pay7 g) 1) (blkOf (k0_pay7 g) 2)) (blkOf (k0_pay7 g) 3) (blkOf (k0_pay7 g) 4) (blkOf (k0_pay7 g) 5) (blkOf (k0_pay7 g) 6),
    k0_pay31 (k0_pay30 k0_pay8 (k0_pay18 (blkOf (k0_pay7 g) 0) (blkOf (k0_pay7 g) 1) (blkOf (k0_pay7 g) 2)) (blkOf (k0_pay7 g) 3) (blkOf (k0_pay7 g) 4) (blkOf (k0_pay7 g) 5) (blkOf (k0_pay7 g) 6) (blkOf (k0_pay7 g) 7))]

/-- Eight stores of a block each leave nothing of what was there. -/
theorem upd_all {α : Type} (b : Fin 8 → α) (w0 w1 w2 w3 w4 w5 w6 w7 : α) :
    Function.update (Function.update (Function.update (Function.update (Function.update (Function.update (Function.update (Function.update b
      0 w0) 1 w1) 2 w2) 3 w3) 4 w4) 5 w5) 6 w6) 7 w7 = ![w0, w1, w2, w3, w4, w5, w6, w7] := by
  funext k; fin_cases k <;> rfl

/-- The second pass: the offset added to every row of every block. -/
def addOff (v : FVec F S1x1024 .f32) (b : Fin 8 → S256x1024.Idx → Elt F .bf16) : Fin 8 → S256x1024.Idx → Elt F .bf16 := fun k => k0_pay1 v (b k)

/-- The column sums of the devices before `c`. -/
def offset (c : Dev nD) : FVec F S1x1024 .f32 := k0_pay32 (pos c) (land m ρ)

/-- The blocks the program leaves, from those of the first pass. -/
def finish (c : Dev nD) (b : Fin 8 → S256x1024.Idx → Elt F .bf16) : Fin 8 → S256x1024.Idx → Elt F .bf16 :=
  if 0 < c.val then addOff (offset m ρ c) b else b

/-- The output of device `c`. -/
def outAt (c : Dev nD) : S2048x1024.Idx → Elt F .bf16 := asm (finish m ρ c (pre (xstg m ρ c)))

end Cert.KernelIdeal.Scan

end
-- ==== Proof.Recvs.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The last block's store and the waits for the earlier devices' copies. -/

/-- The last block is stored; the waits for devices 0 to 8. -/
theorem part14 {R : sProp 𝕄} {Q : BitVec 32 → sProp 𝕄} {g : S2048x1024.Idx → Elt F .bf16} {b : Fin 8 → S256x1024.Idx → Elt F .bf16} {w : FVec F S256x1024 .f32}
    (rest : iprop((R ∗ Cmp c g (Function.update b 7 (k0_pay31 w))) ∗ Rcv m ρ c 9) ⊢ Q 9#32) :
    iprop((R ∗ Rcv m ρ c 0) ∗ Cmp c g b) ⊢ WP c (onBufs (k0_part14 (F := F)) (pos c) w) Q := by
  dsimp only [onBufs]
  rw [k0_part14_eq_skeleton]; unfold k0_part14_skel
  refine ld_o 7 rfl ?_
  refine st_o 7 rfl ?_
  refine BIBase.Entails.trans (Q := iprop((R ∗ Cmp c g (Function.update b 7 (k0_pay31 w))) ∗ Rcv m ρ c 0)) ?_ ?_
  · iintro ⟨⟨HR, HW⟩, Ha⟩
    isplitr [HW]
    · isplitl [HR] <;> iassumption
    · iexact HW
  iterate 9
    extract_lets -underBinder v1 v2 v3 jp
    refine guard_rcv m ρ (fun _ => rfl) (fun _ => rfl) (by decide) (sgt_iff c ⟨_, by decide⟩) (fun _ => rfl) (fun _ => rfl) ?_
    dsimp -zeta only [jp]
    clear jp v3 v2 v1
  exact wp_done c rest

/-- The waits for devices 9 to 18. -/
theorem part15 {R : sProp 𝕄} {Q : BitVec 32 → sProp 𝕄} (rest : iprop(R ∗ Rcv m ρ c 19) ⊢ Q 19#32) :
    iprop(R ∗ Rcv m ρ c 9) ⊢ WP c (onBufs (k0_part15 (F := F)) (pos c) 9#32) Q := by
  dsimp only [onBufs]
  rw [k0_part15_eq_skeleton]; unfold k0_part15_skel
  iterate 10
    extract_lets -underBinder v1 v2 v3 jp
    refine guard_rcv m ρ (fun _ => rfl) (fun _ => rfl) (by decide) (sgt_iff c ⟨_, by decide⟩) (fun _ => rfl) (fun _ => rfl) ?_
    dsimp -zeta only [jp]
    clear jp v3 v2 v1
  exact wp_done c rest

/-- The waits for devices 19 to 28. -/
theorem part16 {R : sProp 𝕄} {Q : BitVec 32 → sProp 𝕄} (rest : iprop(R ∗ Rcv m ρ c 29) ⊢ Q 29#32) :
    iprop(R ∗ Rcv m ρ c 19) ⊢ WP c (onBufs (k0_part16 (F := F)) (pos c) 19#32) Q := by
  dsimp only [onBufs]
  rw [k0_part16_eq_skeleton]; unfold k0_part16_skel
  iterate 10
    extract_lets -underBinder v1 v2 v3 jp
    refine guard_rcv m ρ (fun _ => rfl) (fun _ => rfl) (by decide) (sgt_iff c ⟨_, by decide⟩) (fun _ => rfl) (fun _ => rfl) ?_
    dsimp -zeta only [jp]
    clear jp v3 v2 v1
  exact wp_done c rest

end Cert.KernelIdeal.Scan

end
-- ==== Proof.Drains.lean ====
module

public import proofs.«01_k».proof.Proof.Whole

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The waits for the device's own copies to have left. -/

/-- The waits for the copies to devices 3 to 12. -/
theorem part18 {R : sProp 𝕄} {Q : PUnit → sProp 𝕄} (rest : iprop(R ∗ Drn m ρ c 13) ⊢ Q ⟨⟩) :
    iprop(R ∗ Drn m ρ c 3) ⊢ WP c (onBufs (k0_part18 (F := F)) c (pos c)) Q := by
  dsimp only [onBufs]
  rw [k0_part18_eq_skeleton]; unfold k0_part18_skel
  iterate 10
    extract_lets -underBinder jp
    refine guard_drn m ρ (fun _ => rfl) (fun _ => rfl) (by decide) (by clear rest; revert c; decide) (fun _ => rfl) (fun _ => rfl) ?_
    dsimp -zeta only [jp]
    clear jp
  exact wp_done c rest

/-- The waits for the copies to devices 13 to 22. -/
theorem part19 {R : sProp 𝕄} {Q : PUnit → sProp 𝕄} (rest : iprop(R ∗ Drn m ρ c 23) ⊢ Q ⟨⟩) :
    iprop(R ∗ Drn m ρ c 13) ⊢ WP c (onBufs (k0_part19 (F := F)) c (pos c)) Q := by
  dsimp only [onBufs]
  rw [k0_part19_eq_skeleton]; unfold k0_part19_skel
  iterate 10
    extract_lets -underBinder jp
    refine guard_drn m ρ (fun _ => rfl) (fun _ => rfl) (by decide) (by clear rest; revert c; decide) (fun _ => rfl) (fun _ => rfl) ?_
    dsimp -zeta only [jp]
    clear jp
  exact wp_done c rest

end Cert.KernelIdeal.Scan

end
-- ==== Proof.Finish.lean ====
module

public import proofs.«01_k».proof.Proof.Output
public import proofs.«01_k».proof.Proof.Recvs
public import proofs.«01_k».proof.Proof.Drains

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The last waits, the second pass, the first of the send waits. -/

/-- The slots a device keeps: its own and the later devices'. -/
def kept : sProp 𝕄 := bigSep (Finset.univ.filter fun i : Dev nD => ¬ i < c) (fun i => iprop(∃ f, slotPts (F := F) c i f))
/-- The receive semaphores back at zero. -/
def recvZero : sProp 𝕄 := bigSep Finset.univ (fun i : Dev nD => semVal (recvCell c i) 0)

variable {c}

/-- A program that branches. -/
theorem wp_if {α : Type} {P : sProp 𝕄} {Q : α → sProp 𝕄} {p : Prop} [Decidable p] {T : p → Prog (TpuEff nD τ sig (Elt F) Λ₀ .tc) α}
    {E : ¬p → Prog (TpuEff nD τ sig (Elt F) Λ₀ .tc) α} (h1 : ∀ h, P ⊢ WP c (T h) Q) (h2 : ∀ h, P ⊢ WP c (E h) Q) : P ⊢ WP c (dite p T E) Q := by
  by_cases h : p
  · rw [dif_pos h]; exact h1 h
  · rw [dif_neg h]; exact h2 h

/-- One program after another. -/
theorem wp_then {α β : Type} {P : sProp 𝕄} {Q : β → sProp 𝕄} {p : Prog (TpuEff nD τ sig (Elt F) Λ₀ .tc) α} {k : α → Prog (TpuEff nD τ sig (Elt F) Λ₀ .tc) β}
    (h : P ⊢ WP c p (fun a => WP c (k a) Q)) : P ⊢ WP c (p >>= k) Q :=
  h.trans (Entails.of_eq (wp_bind frame (wpE (defs₀ (F := F)) 𝒱₀ (c : Thread nD τ) none) Set.univ p k Q).symm)

/-- Something that exists and satisfies a condition, named. -/
theorem ex_elim {ι : Type} {Φ : ι → Prop} {Ψ : ι → sProp 𝕄} {G : sProp 𝕄} (k : ∀ V, Φ V → Ψ V ⊢ G) : iprop(∃ V, ⌜Φ V⌝ ∗ Ψ V) ⊢ G := by
  iintro ⟨%V, %hV, H⟩
  iapply (k V hV) $$ H

/-- With every earlier device's copy in, the landing buffer is whole again and the send waits begin. -/
theorem rcv_end : iprop((kept (F := F) c ∗ bigSep Finset.univ (drnB (F := F) c)) ∗ Rcv m ρ c 32)
    ⊢ iprop(∃ V, ⌜∀ x : S32x1x1024.Idx, (x 0).val < c.val → V x = land m ρ x⌝ ∗ rPts c V ∗ recvZero (F := F) c ∗ Drn m ρ c 0) := by
  unfold Rcv Drn
  rw [fam_zero, fam_last]
  have e : bigSep Finset.univ (rcvA m ρ c) = iprop(recvZero (F := F) c ∗ bigSep (Finset.univ.filter fun i : Dev nD => i < c) (fun i => recvPay (F := F) m ρ c i)) := by
    rw [bigSep_filter]
    exact bigSep_sep' Finset.univ _ _
  rw [e]
  iintro ⟨⟨HK, HD⟩, HR, HO, HZ, HP⟩
  ihave H := (slots_all m ρ (c := c)) $$ [HK HP]
  · unfold kept; isplitl [HK] <;> iassumption
  ihave H' := (slots_join m ρ (c := c)) $$ H
  icases H' with ⟨%V, %hV, HV⟩
  iexists V
  isplitr; · ipureintro; exact hV
  isplitl [HV]; · iexact HV
  isplitl [HZ]; · iexact HZ
  isplitl [HR]; · iexact HR
  isplitl [HO] <;> iassumption

/-- The waits for devices 29 to 31, the second pass, the waits for the copies to devices 0 to 2. -/
theorem part17 {R : sProp 𝕄} {Q : PUnit → sProp 𝕄} {g : S2048x1024.Idx → Elt F .bf16} {b : Fin 8 → S256x1024.Idx → Elt F .bf16}
    (rest : iprop((R ∗ Cmp c g (finish m ρ c b) ∗ (∃ V, rPts c V) ∗ recvZero c) ∗ Drn m ρ c 3) ⊢ Q ⟨⟩) :
    iprop((R ∗ Cmp c g b ∗ kept c ∗ bigSep Finset.univ (drnB c)) ∗ Rcv m ρ c 29) ⊢ WP c (onBufs (k0_part17 (F := F)) c (pos c) 29#32) Q := by
  dsimp only [onBufs]
  rw [k0_part17_eq_skeleton]; unfold k0_part17_skel
  iterate 3
    extract_lets -underBinder v1 v2 v3 jp
    refine guard_rcv m ρ (fun _ => rfl) (fun _ => rfl) (by decide) (sgt_iff c ⟨_, by decide⟩) (fun _ => rfl) (fun _ => rfl) ?_
    dsimp -zeta only [jp]
    clear jp v3 v2 v1
  refine BIBase.Entails.trans (Q := iprop(∃ V, ⌜∀ x : S32x1x1024.Idx, (x 0).val < c.val → V x = land m ρ x⌝
      ∗ ((R ∗ Cmp c g b ∗ recvZero c ∗ Drn m ρ c 0) ∗ rPts c V))) ?_ (ex_elim fun V hV => ?_)
  · iintro ⟨⟨HR, HC, HK, HD⟩, HW⟩
    ihave H := (rcv_end m ρ (c := c)) $$ [HK HD HW]
    · isplitl [HK HD]
      · isplitl [HK] <;> iassumption
      · iexact HW
    icases H with ⟨%V, %hV, HV, HZ, HD⟩
    iexists V
    isplitr; · ipureintro; exact hV
    isplitr [HV]
    · isplitl [HR]; · iexact HR
      isplitl [HC]; · iexact HC
      isplitl [HZ] <;> iassumption
    · iexact HV
  have hoff : k0_pay32 (pos c) V = offset m ρ c := offset_eq V (land m ρ) hV
  refine ld_r .rfl ?_
  refine BIBase.Entails.trans (Q := iprop((R ∗ recvZero c ∗ Drn m ρ c 0 ∗ rPts c V) ∗ Cmp c g b)) ?_ ?_
  · iintro ⟨⟨HR, HC, HZ, HD⟩, HV⟩
    isplitr [HC]
    · isplitl [HR]; · iexact HR
      isplitl [HZ]; · iexact HZ
      isplitl [HD] <;> iassumption
    · iexact HC
  extract_lets -underBinder v1 v2 v3 jp
  have key : iprop((R ∗ recvZero c ∗ Drn m ρ c 0 ∗ rPts c V) ∗ Cmp c g (finish m ρ c b)) ⊢ WP c (jp PUnit.unit) Q := by
    refine BIBase.Entails.trans (Q := iprop((R ∗ Cmp c g (finish m ρ c b) ∗ (∃ V, rPts c V) ∗ recvZero c) ∗ Drn m ρ c 0)) ?_ ?_
    · iintro ⟨⟨HR, HZ, HD, HV⟩, HC⟩
      isplitr [HD]
      · isplitl [HR]; · iexact HR
        isplitl [HC]; · iexact HC
        isplitl [HV]
        · iexists V; iexact HV
        · iexact HZ
      · iexact HD
    clear hoff
    dsimp -zeta only [jp]
    clear jp v3 v2 v1
    iterate 3
      extract_lets -underBinder jp
      refine guard_drn m ρ (fun _ => rfl) (fun _ => rfl) (by decide) (by clear rest hV V g b; revert c; decide) (fun _ => rfl) (fun _ => rfl) ?_
      dsimp -zeta only [jp]
      clear jp
    exact wp_done c rest
  clear_value jp
  refine wp_if (fun h => ?_) (fun h => ?_)
  · have hc : 0 < c.val := (sgt_iff c ⟨0, by decide⟩).mp h
    refine wp_then ?_
    refine part1 c ?_
    refine ld_o 5 rfl ?_
    refine ld_o 5 rfl ?_
    refine st_o 5 rfl ?_
    refine ld_o 6 rfl ?_
    refine ld_o 6 rfl ?_
    refine st_o 6 rfl ?_
    refine ld_o 7 rfl ?_
    refine ld_o 7 rfl ?_
    refine st_o 7 rfl ?_
    rw [upd_all]
    refine BIBase.Entails.trans (sep_mono .rfl (Entails.of_eq (congrArg (Cmp c g) ?_))) key
    refine Eq.trans ?_ (if_pos hc).symm
    rw [← hoff]
    funext k
    fin_cases k <;> rfl
  · have hc : ¬ 0 < c.val := fun hc => h ((sgt_iff c ⟨0, by decide⟩).mpr hc)
    have e : finish m ρ c b = b := if_neg hc
    rw [e] at key
    exact key

end Cert.KernelIdeal.Scan

end
-- ==== Proof.Body.lean ====
module

public import proofs.«01_k».proof.Proof.Signals
public import proofs.«01_k».proof.Proof.Waits
public import proofs.«01_k».proof.Proof.Sends
public import proofs.«01_k».proof.Proof.SendsB
public import proofs.«01_k».proof.Proof.Finish

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The whole body of a device's program. -/

/-- The tokens of a device's copies. -/
def tokS : sProp 𝕄 := bigSep (later c 0) (fun j => iprop(dutyTok ER (sendCell c j) 0 j ∗ dutyTok ER (recvCell j c) 0 c))
/-- The tokens of its ready signals. -/
def tokB : sProp 𝕄 := bigSep (earlier c 0) (fun i => dutyTok ER (barCell i) 0 c)
/-- The start of its send cells. -/
def sendAt : sProp 𝕄 := bigSep Finset.univ (fun j : Dev nD => atPos ER (sendCell c j) 0 ∅ 0)
/-- The send semaphores back at zero. -/
def sendZero : sProp 𝕄 := bigSep Finset.univ (fun j : Dev nD => semVal (sendCell c j) 0)
/-- The shares of the column sums no copy borrows. -/
def aRest : sProp 𝕄 := bigSep (Finset.univ.filter fun j : Dev nD => ¬ c < j) (fun j => sendPay m ρ c j)

/-- What a device's program starts from. -/
def bodyIn : sProp 𝕄 :=
  iprop(records m ρ ∗ Ow c 0 0 ∗ tokB c ∗ tokS c ∗ bar0 c ∗ bigSep Finset.univ (rcvB (F := F) c) ∗ sendAt c
    ∗ (∃ f, aPts c f) ∗ (∃ f, bPts c f) ∗ (∃ f, rPts c f))
/-- What it ends with. -/
def bodyOut : sProp 𝕄 :=
  iprop(Ow c 32 32 ∗ semVal (barCell c) 0 ∗ recvZero c ∗ sendZero c ∗ (∃ f, aPts c f) ∗ (∃ f, bPts c f) ∗ (∃ f, rPts (F := F) c f))

variable {c}

/-- All the devices before `c`. -/
theorem earlier_all : earlier c 0 = Finset.univ.filter fun i : Dev nD => i < c := Finset.filter_congr fun i _ => by simp
/-- All the devices after `c`. -/
theorem later_all : later c 0 = Finset.univ.filter fun j : Dev nD => c < j := Finset.filter_congr fun i _ => by simp

/-- The column sums, cut into the shares the copies borrow and the rest. -/
theorem a_split : aPts c (total m ρ c) = iprop(bigSep (later c 0) (fun j => sendPay m ρ c j) ∗ aRest m ρ c) := by
  have h := ShareLeaves.pointsTo_leaves (Ix := Unit) (Name := ℕ) (U := UU) (Lvl := ℕ) (ℓ := (c : Thread nD τ).loc cc0_scratch1) Finset.univ (total m ρ c) 5 fullShare
  refine h.trans ?_
  rw [later_all]
  exact bigSep_filter_split (s := Finset.univ) (Φ := fun j : Dev nD => sendPay m ρ c j) (fun j : Dev nD => c < j)

/-- The slots cut: the earlier devices' given with the ready signals, the others kept. -/
theorem sig_init (f : Buf (Elt F) ((c : Thread nD τ).loc cc0_scratch2)) :
    iprop(records m ρ ∗ Ow c 0 0 ∗ tokB c ∗ rPts c f) ⊢ iprop(kept c ∗ Sig m ρ c 0) := by
  rw [slots_split]
  have e : bigSep Finset.univ (fun i => slotPts c i f)
      = iprop(bigSep (earlier c 0) (fun i => slotPts c i f) ∗ bigSep (Finset.univ.filter fun i : Dev nD => ¬ i < c) (fun i => slotPts c i f)) := by
    rw [earlier_all]
    exact bigSep_filter_split (s := Finset.univ) (Φ := fun i : Dev nD => slotPts c i f) (fun i : Dev nD => i < c)
  have k : ∀ i : Dev nD, slotPts c i f ⊢ iprop(∃ f, slotPts (F := F) c i f) := fun i => by
    iintro H; iexists f; iexact H
  have h1 : bigSep (earlier c 0) (fun i => slotPts c i f) ⊢ bigSep (earlier c 0) (fun i => barPay (F := F) i c) := bigSep_mono fun i _ => k i
  have h2 : bigSep (Finset.univ.filter fun i : Dev nD => ¬ i < c) (fun i => slotPts c i f) ⊢ kept c := bigSep_mono fun i _ => k i
  unfold Sig tokB
  rw [e, bigSep_sep' (earlier c 0) (fun i => dutyTok ER (barCell i) 0 c)]
  iintro ⟨HR, HO, HT, HS, HK⟩
  isplitl [HK]; · iapply h2 $$ HK
  isplitl [HR]; · iexact HR
  isplitl [HO]; · iexact HO
  isplitl [HT]; · iexact HT
  iapply h1 $$ HS

/-- The copies sent, the waits for the earlier devices' copies begin. -/
theorem rcv_init : iprop((bigSep Finset.univ (rcvB (F := F) c) ∗ sendAt c) ∗ Snd m ρ c 32) ⊢ iprop(Rcv m ρ c 0 ∗ bigSep Finset.univ (drnB (F := F) c)) := by
  have e : bigSep Finset.univ (drnB (F := F) c) = iprop(sendAt c ∗ bigSep Finset.univ (sndA (F := F) c)) := bigSep_sep' Finset.univ _ _
  unfold Snd Rcv
  rw [fam_zero, fam_last, e]
  iintro ⟨⟨HB, HA⟩, HR, HO, HS⟩
  isplitr [HA HS]
  · isplitl [HR]; · iexact HR
    isplitl [HO] <;> iassumption
  · isplitl [HA] <;> iassumption

/-- The copies gone, the column sums are whole again. -/
theorem drn_end : iprop(aRest m ρ c ∗ Drn m ρ c 32) ⊢ iprop(Ow c 32 32 ∗ sendZero (F := F) c ∗ aPts c (total m ρ c)) := by
  have e : bigSep Finset.univ (drnA m ρ c) = iprop(sendZero (F := F) c ∗ bigSep (later c 0) (fun j => sendPay m ρ c j)) := by
    rw [later_all, bigSep_filter]
    exact bigSep_sep' Finset.univ _ _
  unfold Drn
  rw [fam_last, e, a_split]
  iintro ⟨HA, -, HO, HZ, HP⟩
  isplitl [HO]; · iexact HO
  isplitl [HZ]; · iexact HZ
  isplitl [HP] <;> iassumption

/-- The body but for the last two send waits. -/
theorem part20 {Q : (Σ' (d0 : Dev nD), BitVec 32) → sProp 𝕄} {g' : Buf (Elt F) ((c : Thread nD τ).loc cc0_scratch0)} {f' : Buf (Elt F) ((c : Thread nD τ).loc cc0_stg1_0)}
    {f : Buf (Elt F) ((c : Thread nD τ).loc cc0_scratch1)}
    (rest : iprop((xPts c (xstg m ρ c) ∗ aRest m ρ c ∗ semVal (barCell c) 0 ∗ Cmp c (k0_pay7 (xstg m ρ c)) (finish m ρ c (pre (xstg m ρ c))) ∗ (∃ V, rPts c V) ∗ recvZero c)
      ∗ Drn m ρ c 30) ⊢ Q ⟨c, pos c⟩) :
    iprop(((kept c ∗ tokS c ∗ (bigSep Finset.univ (rcvB (F := F) c) ∗ sendAt c) ∗ Cmp c g' (blkOf f')) ∗ xPts c (xstg m ρ c) ∗ aPts c f ∗ bar0 c) ∗ Sig m ρ c 0)
      ⊢ WP c (onBufs (k0_part20 (F := F))) Q := by
  dsimp only [onBufs]
  rw [k0_part20_eq_skeleton]; unfold k0_part20_skel
  refine wp_then (part2 m ρ c ?_)
  dsimp -zeta only
  refine wp_then (part3 m ρ c ?_)
  refine wp_then (part4 m ρ c ?_)
  refine wp_then (part5 m ρ c ?_)
  refine wp_then (part6 m ρ c ?_)
  refine wp_then (part7 m ρ c ?_)
  refine BIBase.Entails.trans (Q := iprop(((kept c ∗ (bigSep Finset.univ (rcvB (F := F) c) ∗ sendAt c) ∗ Cmp c g' (blkOf f') ∗ xPts c (xstg m ρ c) ∗ aRest m ρ c) ∗ sndT m ρ c) ∗ Wt m ρ c 24)) ?_ ?_
  · have e : aPts c (k0_pay6 (xstg m ρ c)) = _ := a_split m ρ (c := c)
    unfold sndT tokS
    rw [e, bigSep_sep' (later c 0) (fun j => sendPay m ρ c j)]
    iintro ⟨⟨⟨HK, HT, HB, HC⟩, HX, HS, HA⟩, HW⟩
    isplitr [HW]
    · isplitr [HT HS]
      · isplitl [HK]; · iexact HK
        isplitl [HB]; · iexact HB
        isplitl [HC]; · iexact HC
        isplitl [HX] <;> iassumption
      · isplitl [HS] <;> iassumption
    · iexact HW
  refine wp_then (part8 m ρ c ?_)
  refine wp_then (part9 m ρ c ?_)
  refine wp_then (part10 m ρ c ?_)
  refine BIBase.Entails.trans (Q := iprop(((kept c ∗ (bigSep Finset.univ (rcvB (F := F) c) ∗ sendAt c) ∗ Cmp c g' (blkOf f') ∗ aRest m ρ c ∗ semVal (barCell c) 0) ∗ xPts c (xstg m ρ c)) ∗ Snd m ρ c 22)) ?_ ?_
  · iintro ⟨⟨⟨HK, HB, HC, HX, HA⟩, HV⟩, HW⟩
    isplitr [HW]
    · isplitr [HX]
      · isplitl [HK]; · iexact HK
        isplitl [HB]; · iexact HB
        isplitl [HC]; · iexact HC
        isplitl [HA] <;> iassumption
      · iexact HX
    · iexact HW
  refine wp_then (part11 m ρ c ?_)
  refine BIBase.Entails.trans (Q := iprop((((xPts c (xstg m ρ c) ∗ aRest m ρ c ∗ semVal (barCell c) 0) ∗ kept c ∗ bigSep Finset.univ (drnB (F := F) c)) ∗ Rcv m ρ c 0) ∗ Cmp c g' (blkOf f'))) ?_ ?_
  · iintro ⟨⟨⟨HK, HB, HC, HA, HV⟩, HX⟩, HW⟩
    ihave H := (rcv_init m ρ (c := c)) $$ [HB HW]
    · isplitl [HB] <;> iassumption
    icases H with ⟨HR, HD⟩
    isplitr [HC]
    · isplitr [HR]
      · isplitr [HK HD]
        · isplitl [HX]; · iexact HX
          isplitl [HA] <;> iassumption
        · isplitl [HK] <;> iassumption
      · iexact HR
    · iexact HC
  refine wp_then (part12 c ?_)
  dsimp -zeta only
  refine wp_then (part13 c ?_)
  refine wp_then (part14 m ρ c ?_)
  rw [upd_all]
  refine wp_then (part15 m ρ c ?_)
  refine wp_then (part16 m ρ c ?_)
  refine BIBase.Entails.trans (Q := iprop(((xPts c (xstg m ρ c) ∗ aRest m ρ c ∗ semVal (barCell c) 0) ∗ Cmp c (k0_pay7 (xstg m ρ c)) (pre (xstg m ρ c)) ∗ kept c ∗ bigSep Finset.univ (drnB (F := F) c)) ∗ Rcv m ρ c 29)) ?_ ?_
  · iintro ⟨⟨⟨HX, HK, HD⟩, HC⟩, HW⟩
    isplitr [HW]
    · isplitl [HX]; · iexact HX
      isplitl [HC]; · iexact HC
      isplitl [HK] <;> iassumption
    · iexact HW
  refine wp_then (part17 m ρ ?_)
  refine wp_then (part18 m ρ c ?_)
  refine wp_then (part19 m ρ c ?_)
  iterate 7
    extract_lets -underBinder jp
    refine guard_drn m ρ (fun _ => rfl) (fun _ => rfl) (by decide) (by clear rest; clear f f' g'; revert c; decide) (fun _ => rfl) (fun _ => rfl) ?_
    dsimp -zeta only [jp]
    clear jp
  refine wp_done c (BIBase.Entails.trans ?_ rest)
  iintro ⟨⟨⟨HX, HA, HV⟩, HC, HR, HZ⟩, HW⟩
  isplitr [HW]
  · isplitl [HX]; · iexact HX
    isplitl [HA]; · iexact HA
    isplitl [HV]; · iexact HV
    isplitl [HC]; · iexact HC
    isplitl [HR] <;> iassumption
  · iexact HW

/-- The body. -/
theorem body (f' : Buf (Elt F) ((c : Thread nD τ).loc cc0_stg1_0)) :
    iprop(bodyIn m ρ c ∗ xPts c (xstg m ρ c) ∗ oPts c f')
      ⊢ WP c (onBufs (cc0_body (F := F))) (fun _ => iprop(bodyOut c ∗ xPts c (xstg m ρ c) ∗ oPts c (outAt m ρ c))) := by
  dsimp only [onBufs]
  rw [cc0_body_eq_skeleton]; unfold cc0_body_skel
  refine BIBase.Entails.trans (Q := iprop(∃ fs : (Buf (Elt F) ((c : Thread nD τ).loc cc0_scratch1)) × (Buf (Elt F) ((c : Thread nD τ).loc cc0_scratch0)), ⌜True⌝
      ∗ (((kept c ∗ tokS c ∗ (bigSep Finset.univ (rcvB (F := F) c) ∗ sendAt c) ∗ Cmp c fs.2 (blkOf f')) ∗ xPts c (xstg m ρ c) ∗ aPts c fs.1 ∗ bar0 c) ∗ Sig m ρ c 0))) ?_
      (ex_elim fun fs _ => ?_)
  · unfold bodyIn Cmp
    rw [asm_blkOf]
    iintro ⟨⟨HR, HO, HTB, HTS, HB0, HRB, HSA, ⟨%fa, Ha⟩, ⟨%fb, Hb⟩, ⟨%fr, Hr⟩⟩, HX, Hout⟩
    ihave H := (sig_init m ρ (c := c) fr) $$ [HR HO HTB Hr]
    · isplitl [HR]; · iexact HR
      isplitl [HO]; · iexact HO
      isplitl [HTB] <;> iassumption
    icases H with ⟨HK, HS⟩
    iexists (fa, fb)
    isplitr; · ipureintro; trivial
    isplitr [HS]
    · isplitr [HX Ha HB0]
      · isplitl [HK]; · iexact HK
        isplitl [HTS]; · iexact HTS
        isplitl [HRB HSA]
        · isplitl [HRB] <;> iassumption
        · isplitl [Hb] <;> iassumption
      · isplitl [HX]; · iexact HX
        isplitl [Ha] <;> iassumption
    · iexact HS
  refine wp_then (part20 m ρ ?_)
  dsimp -zeta only
  iterate 2
    extract_lets -underBinder jp
    refine guard_drn m ρ (fun _ => rfl) (fun _ => rfl) (by decide) (by clear fs f'; revert c; decide) (fun _ => rfl) (fun _ => rfl) ?_
    dsimp -zeta only [jp]
    clear jp
  refine wp_done c ?_
  unfold bodyOut Cmp outAt
  iintro ⟨⟨HX, HA, HV, ⟨Hb, Ho⟩, HR, HZ⟩, HW⟩
  ihave H := (drn_end m ρ (c := c)) $$ [HA HW]
  · isplitl [HA] <;> iassumption
  icases H with ⟨HO, HS, Ha⟩
  isplitr [HX Ho]
  · isplitl [HO]; · iexact HO
    isplitl [HV]; · iexact HV
    isplitl [HZ]; · iexact HZ
    isplitl [HS]; · iexact HS
    isplitl [Ha]; · iexists (total m ρ c); iexact Ha
    isplitl [Hb]; · iexists _; iexact Hb
    iexact HR
  · isplitl [HX] <;> iassumption

end Cert.KernelIdeal.Scan

end
-- ==== Proof.Obligation.lean ====
module

public import proofs.«01_k».proof.Proof.Body
public import proofs.«01_k».proof.Proof.Gen.KernelIdeal.Points

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! What the pipeline around the body asks of it, met by `body`: before its one point a device holds what its program
starts from, after it the semaphores back at zero; the window of `x` is unchanged and the window of the result holds
`outAt`. -/

/-- The scratch buffers at some contents. -/
def scr : sProp 𝕄 := iprop((∃ f, bPts c f) ∗ (∃ f, aPts c f) ∗ (∃ f, rPts (F := F) c f))
/-- What a device starts from besides its buffers. -/
def start : sProp 𝕄 :=
  iprop(records m ρ ∗ tokB c ∗ tokS c ∗ bar0 c ∗ bigSep Finset.univ (rcvB (F := F) c) ∗ sendAt c)
/-- Its semaphores back at zero. -/
def zeros : sProp 𝕄 := iprop(semVal (barCell c) 0 ∗ recvZero c ∗ sendZero (F := F) c)

/-- The windows' contents, the resources before and after the point, and what is owed then. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => iprop(start m ρ c ∗ scr c)
    | ⟨_ + 1, _⟩ => iprop(zeros c ∗ scr c)
  q _ := fullShare
  owed t := match t with
    | ⟨0, _⟩ => owing c 0 0
    | ⟨_ + 1, _⟩ => 0

/-- Nothing is owed after every signal and copy. -/
theorem owing_end : owing c 32 32 = 0 := by
  have h1 : later c 32 = ∅ := by revert c; decide
  have h2 : earlier c 32 = ∅ := by revert c; decide
  unfold owing; rw [h1, h2, Finset.sum_empty, Finset.sum_empty, add_zero]

/-- To own a whole buffer through its reference is to own the buffer. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's buffer, owned whole through its reference. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives to the body. -/
def bodyPre : sProp 𝕄 :=
  iprop((start m ρ c ∗ scr c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the pipeline takes back from the body. -/
def bodyPost : sProp 𝕄 :=
  iprop((zeros c ∗ scr c) ∗ (dats m ρ 0 c).owesAt () t0_0.succ ∗ stg c cc0_stg0_0 (xstg m ρ c) ∗ stg c cc0_stg1_0 (outAt m ρ c))

variable {c}

/-- The body between the pipeline's resources before and after its point. -/
theorem sound_body : bodyPre m ρ c ⊢ WP c (onBufs (cc0_body (F := F))) (fun _ => bodyPost m ρ c) := by
  have post : ∀ v : PUnit, iprop(bodyOut c ∗ xPts c (xstg m ρ c) ∗ oPts c (outAt m ρ c)) ⊢ bodyPost m ρ c := fun v => by
    unfold bodyPost bodyOut zeros scr Ow Pipeline.Dat.owesAt Pipeline.owesWithin
    rw [show (dats m ρ 0 c).owed t0_0.succ = 0 from rfl, owing_end]
    iintro ⟨⟨⟨%W, HO⟩, HB, HZ, HS, Ha, Hb, Hr⟩, HX, Ho⟩
    isplitl [HB HZ HS Ha Hb Hr]
    · isplitl [HB HZ HS]
      · isplitl [HB]; · iexact HB
        isplitl [HZ] <;> iassumption
      · isplitl [Hb]; · iexact Hb
        isplitl [Ha] <;> iassumption
    isplitl [HO]
    · iexists W
      isplitr; · ipureintro; exact fun _ _ => Or.inl trivial
      iexact HO
    isplitl [HX]
    · iexists _; isplitr; · (ipureintro; rfl)
      iexact HX
    iexists _; isplitr; · (ipureintro; rfl)
    iexact Ho
  refine BIBase.Entails.trans (Q := iprop(∃ f' : Buf (Elt F) ((c : Thread nD τ).loc cc0_stg1_0), ⌜True⌝ ∗ (bodyIn m ρ c ∗ xPts c (xstg m ρ c) ∗ oPts c f'))) ?_
    (ex_elim fun f' _ => (body m ρ f').trans (wp_mono _ _ _ post))
  unfold bodyPre bodyIn start scr Ow Pipeline.Dat.owesAt Pipeline.owesWithin
  rw [show (dats m ρ 0 c).owed t0_0.castSucc = owing c 0 0 from rfl]
  iintro ⟨⟨⟨HR, HTB, HTS, HB, HRB, HSA⟩, Hb, Ha, Hr⟩, ⟨%W, -, HO⟩, ⟨%d0, %g0, %hg0, Hx⟩, ⟨%d1, %g1, %hg1, Hout⟩⟩
  have hx : g0 = xstg m ρ c := by rw [hg0]; unfold Pipeline.Dat.before; rw [if_pos (fetch0_0 t0_0)]; rfl
  subst hx
  iexists g1
  isplitr; · ipureintro; trivial
  isplitr [Hx Hout]
  · isplitl [HR]; · iexact HR
    isplitl [HO]; · iexists W; iexact HO
    isplitl [HTB]; · iexact HTB
    isplitl [HTS]; · iexact HTS
    isplitl [HB]; · iexact HB
    isplitl [HRB]; · iexact HRB
    isplitl [HSA]; · iexact HSA
    isplitl [Ha]; · iexact Ha
    isplitl [Hb] <;> iassumption
  · isplitl [Hx] <;> iassumption

/-- The pipeline's demand on the body. -/
theorem body_obligation (c : Dev nD) : Pipeline.BodyObligation (dats (F := F) m ρ 0 c) (defs₀ (F := F)) 𝒱₀ () Set.univ := fun t => by
  rw [fin_N0 t]
  have hW : ∀ Φ : Fin cfg0.W → sProp 𝕄, bigSep Finset.univ Φ = iprop(Φ (0 : Fin 2) ∗ Φ (1 : Fin 2)) := fun Φ => bigSep_W0 Φ
  rw [hW, hW]
  simp only [owns_whole_eq]
  exact sound_body m ρ

end Cert.KernelIdeal.Scan

end
-- ==== Proof.Launch.lean ====
module

public import proofs.«01_k».proof.Proof.Obligation
public import Idealize.ShloMosaic.Lib.Pipeline.CollectiveSegs

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The launch: the cells' invariants are allocated, each device is dealt the tokens of the duties it pays, and @main is
run on all devices together. -/

/-! ## The semaphores, the cells and the tokens -/

/-- The kernel's own semaphores: the 32 send and the 32 receive semaphores. -/
abbrev osem (k : Bool × Dev nD) : SemLoc sig := .dma (bif k.1 then recvS k.2 else sendS k.2)

/-- The kernel's own semaphores are none of the pipeline's. -/
theorem ownSemFacts : Pipeline.OwnSemFacts cfg0.spec osem := by decide

/-- Every window is held with the full share. -/
theorem share_eq (w : Fin cfg0.W) : (dats m ρ 0 c).share w = fullShare := by unfold Pipeline.Dat.share; split <;> rfl

/-- Barrier semaphores of different devices differ. -/
theorem bar_inj {a b : Dev nD} : Iff (barCell a = barCell b) (a = b) :=
  ⟨fun h => Fin.ext (congrArg (fun g : GSem nD τ sig => g.1.1.val) h), fun h => h ▸ rfl⟩
/-- Receive semaphores differ when their devices or their numbers do. -/
theorem recv_inj {a b i j : Dev nD} : Iff (recvCell a i = recvCell b j) (a = b ∧ i = j) :=
  ⟨fun h => ⟨Fin.ext (congrArg (fun g : GSem nD τ sig => g.1.1.val) h), recvS_inj.mp (SemLoc.dma.inj (congrArg Prod.snd h))⟩,
    fun h => by rw [h.1, h.2]⟩
/-- Send semaphores differ when their devices or their numbers do. -/
theorem send_inj {a b i j : Dev nD} : Iff (sendCell a i = sendCell b j) (a = b ∧ i = j) :=
  ⟨fun h => ⟨Fin.ext (congrArg (fun g : GSem nD τ sig => g.1.1.val) h), sendS_inj.mp (SemLoc.dma.inj (congrArg Prod.snd h))⟩,
    fun h => by rw [h.1, h.2]⟩
/-- A receive semaphore is no barrier semaphore. -/
theorem recv_ne_bar {a b i : Dev nD} : recvCell a i ≠ barCell b := fun h => nomatch congrArg Prod.snd h
/-- A send semaphore is no barrier semaphore. -/
theorem send_ne_bar {a b i : Dev nD} : sendCell a i ≠ barCell b := fun h => nomatch congrArg Prod.snd h
/-- A send semaphore is no receive semaphore. -/
theorem send_ne_recvCell {a b i j : Dev nD} : sendCell a i ≠ recvCell b j := fun h =>
  send_ne_recv i j (SemLoc.dma.inj (congrArg Prod.snd h))

/-- The kernel's semaphores are listed without repetition. -/
theorem kcell_injective : Function.Injective kcell := by
  rintro ⟨c, _ | ⟨_ | _, i⟩⟩ ⟨d, _ | ⟨_ | _, j⟩⟩ h
  · rw [bar_inj.mp h]
  · exact absurd h.symm send_ne_bar
  · exact absurd h.symm recv_ne_bar
  · exact absurd h send_ne_bar
  · obtain ⟨rfl, rfl⟩ := send_inj.mp h; rfl
  · exact absurd h send_ne_recvCell
  · exact absurd h recv_ne_bar
  · exact absurd h.symm send_ne_recvCell
  · obtain ⟨rfl, rfl⟩ := recv_inj.mp h; rfl
/-- All the semaphores of the kernel, on all devices. -/
def cells : Finset (GSem nD τ sig) := Finset.univ.map ⟨kcell, kcell_injective⟩

/-- The tokens as minted: those of the unit of device `d` at the barrier of `c`, of the copy from `c` to `d` at its send
cell and of the copy from `d` to `c` at its receive cell (the kind: neither, send, receive). -/
abbrev tokOf (x : Option Bool × Dev nD × Dev nD) : GSem nD τ sig × ℕ × Dev nD :=
  (kcell (x.2.1, x.1.map fun b => (b, x.2.2)), 0, x.2.2)
/-- The duties are listed without repetition. -/
theorem tokOf_injective : Function.Injective tokOf := by
  rintro ⟨b, c, d⟩ ⟨b', c', d'⟩ h
  have h1 : d = d' := congrArg (fun x : GSem nD τ sig × ℕ × Dev nD => x.2.2) h
  have h2 := kcell_injective (congrArg Prod.fst h)
  have h3 : c = c' := congrArg Prod.fst h2
  have h4 : b.map (fun b => (b, d)) = b'.map (fun b => (b, d')) := congrArg Prod.snd h2
  subst h1 h3
  rcases b with _ | b <;> rcases b' with _ | b'
  · rfl
  · exact absurd h4 (by simp)
  · exact absurd h4 (by simp)
  · have : b = b' := by simpa using h4
    rw [this]
/-- All the duties of all the semaphores. -/
def tokens : Finset (GSem nD τ sig × ℕ × Dev nD) := Finset.univ.map ⟨tokOf, tokOf_injective⟩

/-- The ghost state at the start: the pipeline's and the kernel's. -/
def u₀ : UU := (initOf (Pipeline.cells cfgs cellOf_inj) (Pipeline.launchToks cfgs cellOf_inj), initOf cells tokens)

/-! ## What each device is dealt -/

/-- The positions at a device's cells, and that they are at their first round. -/
def at0 (k : Option (Bool × Dev nD)) : sProp 𝕄 := iprop(atPos ER (kcell (c, k)) 0 ∅ 0 ∗ reached ER (kcell (c, k)) 0)
/-- The tokens minted at device `c`'s cells, one kind. -/
def minted (b : Option Bool) : sProp 𝕄 := bigSep Finset.univ fun d : Dev nD => dutyTok ER (kcell (c, b.map fun b => (b, d))) 0 d
/-- What the launch mints at device `c`. -/
def G : sProp 𝕄 :=
  iprop((bigSep Finset.univ fun k => roundState ER (Rd (F := F) m ρ) (kcell (c, k)) 0) ∗ (bigSep Finset.univ fun k => at0 (F := F) c k)
    ∗ bigSep Finset.univ fun b => minted (F := F) c b)
/-- The positions at a device's cells. -/
def spots : sProp 𝕄 := bigSep Finset.univ fun k => atPos ER (kcell (c, k)) 0 ∅ 0
/-- The cells' records without the levels. -/
def cellRecords : sProp 𝕄 := bigSep (Finset.univ : Finset CI) fun g => record (F := F) m ρ (kcell g)
/-- What is recorded about the semaphores may be copied. -/
instance cellRecords_persistent : BI.Persistent (cellRecords (F := F) m ρ) := by unfold cellRecords; infer_instance
/-- What device `c` starts with: its positions, and the tokens of the duties it pays. -/
def G' : sProp 𝕄 := iprop(cellRecords (F := F) m ρ ∗ spots (F := F) c ∗ tokB (F := F) c ∗ tokS (F := F) c)

/-- A separating conjunction over an optional index, with the absent one taken out. -/
theorem bigSep_opt {I : Type} [Fintype I] [DecidableEq I] {Φ : Option I → sProp 𝕄} :
    bigSep Finset.univ Φ = iprop(Φ none ∗ bigSep Finset.univ fun i => Φ (some i)) := by
  rw [bigSep_univ_equiv ((Equiv.sumComm PUnit.{1} I).trans (Equiv.optionEquivSumPUnit.{0} I).symm) Φ, bigSep_univ_sum, bigSep_univ_of_subsingleton PUnit.unit.{1}]
  rfl
/-- A separating conjunction over two truth values. -/
theorem bigSep_bool {Φ : Bool → sProp 𝕄} : bigSep Finset.univ Φ = iprop(Φ false ∗ Φ true) :=
  bigSep_univ_eq_bigSepL [false, true] (by decide) (by decide) Φ
/-- A separating product over a device's cells, kind by kind. -/
theorem bigSep_cells {Φ : Option (Bool × Dev nD) → sProp 𝕄} :
    bigSep Finset.univ Φ = iprop(Φ none ∗ (bigSep Finset.univ fun j => Φ (some (false, j))) ∗ bigSep Finset.univ fun i => Φ (some (true, i))) := by
  rw [bigSep_opt, bigSep_univ_prod, bigSep_bool]

/-- The ghost state at the start gives each semaphore its record, its position and its duties. -/
theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k => Φ (kcell (c, k)) := by
    unfold cells; rw [bigSep_map, bigSep_univ_prod]; rfl
  have hT : bigSep tokens (fun x => (dutyTok ER x.1 x.2.1 x.2.2 : sProp 𝕄)) = bigSep Finset.univ fun c : Dev nD => bigSep Finset.univ fun b => minted (F := F) c b := by
    unfold tokens; rw [bigSep_map, bigSep_univ_prod, bigSep_congr fun b _ => bigSep_univ_prod _, bigSep_univ_comm]; rfl
  iintro HX
  imod (Rounds.fund ER (Rd m ρ) cells tokens) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G at0; simp only [bigSep_sep']
  isplitl [Hst']; · iexact Hst'
  isplitl [Hat' Hr']
  · isplitl [Hat'] <;> iassumption
  iexact Htok'

/-- The barrier semaphore is the one semaphore that outlives the kernel. -/
theorem unscopedSems0_eq : (unscopedSems0 c : sProp 𝕄) = semVal (barCell c) 0 := by
  unfold unscopedSems0; rw [bigSep_eq_bigSepL_of_eq [SemLoc.reg barS] (by decide) (by decide)]; rfl
/-- The kernel's own semaphores at zero, listed: the send and the receive semaphores. -/
theorem ownSems0_eq : (Pipeline.ownSems0 (Ix := Unit) (Name := ℕ) (U := UU) (Lvl := ℕ) (Val := Elt F) (τ := τ) osem c : sProp 𝕄)
    = iprop(sendZero c ∗ recvZero c) := by
  unfold Pipeline.ownSems0; rw [bigSep_univ_prod, bigSep_bool]; rfl

/-- The invariants of a device's cells are allocated from its semaphores. -/
theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => record (F := F) m ρ (kcell (c, k))) ∗ spots (F := F) c ∗ bigSep Finset.univ fun b => minted (F := F) c b) := by
  have e : (bigSep Finset.univ fun k => (semVal (kcell (c, k)) 0 : sProp 𝕄)) = iprop(semVal (barCell c) 0 ∗ sendZero c ∗ recvZero c) := bigSep_cells
  have h : iprop((bigSep Finset.univ fun k => (semVal (kcell (c, k)) 0 : sProp 𝕄)) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G at0 spots record
  rw [ownSems0_eq, unscopedSems0_eq, bigSep_sep', bigSep_sep']
  iintro ⟨⟨HS, HV⟩, HB, Hst, ⟨Hat, Hr⟩, Htok⟩
  imod h $$ [HS HV HB Hst] with Hinv
  · isplitr [Hst]
    · rw [e]
      isplitl [HB]; · iexact HB
      isplitl [HS] <;> iassumption
    · iexact Hst
  imodintro
  isplitl [Hinv Hr]
  · isplitl [Hinv] <;> iassumption
  isplitl [Hat] <;> iassumption

/-- The tokens dealt: each to the device that pays the duty. -/
theorem deal : (bigSep Finset.univ fun c : Dev nD => bigSep Finset.univ fun b => (minted c b : sProp 𝕄))
    ⊢ bigSep Finset.univ fun c : Dev nD => iprop(tokB (F := F) c ∗ tokS (F := F) c) := by
  have e : ∀ c : Dev nD, (bigSep Finset.univ fun b => (minted c b : sProp 𝕄))
      = iprop((bigSep Finset.univ fun d => dutyTok ER (barCell c) 0 d) ∗ (bigSep Finset.univ fun d => dutyTok ER (sendCell c d) 0 d)
        ∗ bigSep Finset.univ fun d => dutyTok ER (recvCell c d) 0 d) := fun c => by rw [bigSep_opt, bigSep_bool]; rfl
  have k : ∀ c : Dev nD, iprop((bigSep Finset.univ fun d => (dutyTok ER (barCell d) 0 c : sProp 𝕄)) ∗ (bigSep Finset.univ fun d => dutyTok ER (sendCell c d) 0 d)
        ∗ bigSep Finset.univ fun d => dutyTok ER (recvCell d c) 0 c) ⊢ iprop(tokB c ∗ tokS c) := fun c => by
    unfold tokB tokS
    rw [bigSep_sep']
    exact sep_mono (bigSep_subset (Finset.subset_univ _)) (sep_mono (bigSep_subset (Finset.subset_univ _)) (bigSep_subset (Finset.subset_univ _)))
  rw [bigSep_congr fun c _ => e c, bigSep_sep', bigSep_sep', bigSep_univ_comm (fun c d : Dev nD => (dutyTok ER (barCell c) 0 d : sProp 𝕄)),
    bigSep_univ_comm (fun c d : Dev nD => (dutyTok ER (recvCell c d) 0 d : sProp 𝕄)), ← bigSep_sep', ← bigSep_sep']
  exact bigSep_mono fun c _ => k c

/-- The global step: from every device's semaphores and what is minted to what every device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  have e : (bigSep Finset.univ fun c : Dev nD => bigSep Finset.univ fun k => record (F := F) m ρ (kcell (c, k))) = cellRecords m ρ := by
    unfold cellRecords; rw [bigSep_univ_prod]
  have r : (bigSep Finset.univ fun c : Dev nD => iprop((bigSep Finset.univ fun k => record (F := F) m ρ (kcell (c, k))) ∗ spots (F := F) c
      ∗ bigSep Finset.univ fun b => minted (F := F) c b)) ⊢ bigSep Finset.univ (G' m ρ) := by
    have e2 : bigSep Finset.univ (G' (F := F) m ρ) = iprop((bigSep Finset.univ fun _ : Dev nD => cellRecords (F := F) m ρ)
        ∗ (bigSep Finset.univ fun c => spots (F := F) c) ∗ bigSep Finset.univ fun c => iprop(tokB (F := F) c ∗ tokS (F := F) c)) := by
      unfold G'; rw [bigSep_sep', bigSep_sep']
    rw [bigSep_sep', bigSep_sep', e, e2]
    iintro ⟨#HR, Hat, Htok⟩
    ihave Hd := (deal (F := F)) $$ Htok
    isplitr
    · iapply (BI.bigSep_of_persistent Finset.univ (cellRecords (F := F) m ρ)); iexact HR
    isplitl [Hat] <;> iassumption
  exact ((bigSep_mono fun c _ => core_alloc m ρ c).trans (bigSep_fupd _ _)).trans (BI.fupd_mono r)

/-! ## The launch credit -/

/-- What device `d` owes the barrier of device `c`. -/
theorem owed_bar (d c : Dev nD) : owing d 0 0 (barCell c) () = if c < d then 1 else 0 := by
  unfold owing
  rw [Pi.add_apply, Finsupp.add_apply, Finset.sum_apply, Finsupp.finset_sum_apply, Finset.sum_apply, Finsupp.finset_sum_apply,
    Finset.sum_eq_zero fun j _ => by rw [tallyAt_ne_cell recv_ne_bar.symm]; rfl, Nat.zero_add]
  have h : ∀ i ∈ earlier d 0, (tallyAt (barCell i) () 1 : CellTallies nD τ sig Unit) (barCell c) () = if c = i then 1 else 0 := fun i _ => by
    rw [tallyAt_apply]; congr 1; exact propext ⟨fun h => bar_inj.mp h.1, fun h => ⟨bar_inj.mpr h, rfl⟩⟩
  rw [Finset.sum_congr rfl h, Finset.sum_ite_eq]
  congr 1; rw [earlier_all]; simp
/-- What device `d` owes receive cell `i` of device `c`. -/
theorem owed_recv (d c i : Dev nD) : owing d 0 0 (recvCell c i) () = if d = i then (if i < c then N else 0) else 0 := by
  unfold owing
  rw [Pi.add_apply, Finsupp.add_apply, Finset.sum_apply, Finsupp.finset_sum_apply, Finset.sum_apply, Finsupp.finset_sum_apply,
    Finset.sum_eq_zero (s := earlier d 0) fun j _ => by rw [tallyAt_ne_cell recv_ne_bar]; rfl, Nat.add_zero]
  have h : ∀ j ∈ later d 0, (tallyAt (recvCell j d) () N : CellTallies nD τ sig Unit) (recvCell c i) () = if c = j then (if d = i then N else 0) else 0 := fun j _ => by
    rw [tallyAt_apply, ← ite_and]; congr 1; exact propext ⟨fun h => ⟨(recv_inj.mp h.1).1, (recv_inj.mp h.1).2.symm⟩, fun h => ⟨recv_inj.mpr ⟨h.1, h.2.symm⟩, rfl⟩⟩
  rw [Finset.sum_congr rfl h, Finset.sum_ite_eq, later_all]
  by_cases hd : d = i
  · subst hd; simp
  · simp [hd]

/-- The units a device will wait for at its barrier semaphore: one for every later device. -/
theorem launch_bar :
    tallyOn (barCell c) (launchCredit (Pipeline.owing fun d => owing d 0 0) 0 (barCell c)) = (tallyAt (barCell c) () (later c 0).card : CellTallies nD τ sig Unit) := by
  unfold tallyAt; refine congrArg _ (Finsupp.ext fun u => ?_); cases u
  rw [Pipeline.launchCredit_owing, Finsupp.single_eq_same, Finset.sum_congr rfl fun d _ => owed_bar d c, later_all, Finset.card_filter]
/-- The units a device will wait for at a receive semaphore: one copy's when the sender is earlier, none otherwise. -/
theorem launch_recv (i : Dev nD) :
    tallyOn (recvCell c i) (launchCredit (Pipeline.owing fun d => owing d 0 0) 0 (recvCell c i)) = (tallyAt (recvCell c i) () (if i < c then N else 0) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ i, if_pos (Finset.mem_univ _)]

/-- The credits a device waits with. -/
theorem creds : (Pipeline.launchCred (fun d => owing d 0 0) c : sProp 𝕄)
    ⊢ iprop(cred (tallyAt (barCell c) () (later c 0).card) ∗ bigSep Finset.univ fun i : Dev nD => if i < c then cred (tallyAt (recvCell c i) () N) else iprop(emp)) := by
  have hi : Function.Injective fun i : Dev nD => (SemLoc.dma (recvS i) : SemLoc sig) := fun a b h => recvS_inj.mp (SemLoc.dma.inj h)
  have hs : Finset.univ.map ⟨_, hi⟩ ⊆ Finset.univ.erase (SemLoc.reg barS : SemLoc sig) := fun s hs => by
    obtain ⟨i, -, rfl⟩ := Finset.mem_map.mp hs
    exact Finset.mem_erase.mpr ⟨(fun h => nomatch h), Finset.mem_univ _⟩
  have k : ∀ i : Dev nD, (cred (tallyAt (recvCell c i) () (if i < c then N else 0)) : sProp 𝕄) ⊢ if i < c then cred (tallyAt (recvCell c i) () N) else iprop(emp) := fun i => by
    by_cases h : i < c
    · rw [if_pos h, if_pos h]
    · rw [if_neg h, if_neg h]; iintro -; iempintro
  unfold Pipeline.launchCred
  rw [bigSep_univ_at _ (SemLoc.reg barS), launch_bar]
  refine sep_mono_right ((bigSep_subset hs).trans ?_)
  rw [bigSep_map]
  refine bigSep_mono fun i _ => BIBase.Entails.trans (Entails.of_eq ?_) (k i)
  exact congrArg cred (launch_recv c i)

/-! ## The conditions of the launch -/

/-- What the launch gives a device is what the kernel's body starts from. -/
theorem start_intro :
    iprop(Pipeline.unscopedRestP Pipeline.Prefetch.none cfg0.spec c (fun b => m ((c : Thread nD τ).loc b)) ∗ levAts L lv
        ∗ Pipeline.launchCred (fun d => owing d 0 0) c ∗ prngReg c (ρ c) ∗ G' m ρ c)
      ⊢ |={Set.univ}=> iprop(start m ρ c ∗ emp) := by
  have e : spots (F := F) c = iprop(atPos ER (barCell c) 0 ∅ 0 ∗ sendAt c ∗ bigSep Finset.univ fun i : Dev nD => atPos ER (recvCell c i) 0 ∅ 0) := bigSep_cells
  have e' : (bigSep Finset.univ (rcvB (F := F) c)) = iprop((bigSep Finset.univ fun i : Dev nD => atPos ER (recvCell c i) 0 ∅ 0)
      ∗ bigSep Finset.univ fun i : Dev nD => if i < c then cred (tallyAt (recvCell c i) () N) else iprop(emp)) := bigSep_sep' _ _ _
  unfold G' start records bar0 cellRecords
  rw [e, e']
  iintro ⟨-, Hlev, Hcr, -, HR, ⟨HaB, HaS, HaR⟩, HTB, HTS⟩
  ihave Hc := (creds (F := F) c) $$ Hcr
  icases Hc with ⟨HcB, HcR⟩
  imodintro
  isplitl
  · isplitl [HR Hlev]
    · isplitl [HR] <;> iassumption
    isplitl [HTB]; · iexact HTB
    isplitl [HTS]; · iexact HTS
    isplitl [HcB HaB]
    · isplitl [HcB] <;> iassumption
    isplitl [HaR HcR]
    · isplitl [HaR] <;> iassumption
    iexact HaS
  · iempintro

/-- The body's start together with the scratch buffers is the claim before the first step of the pipeline. -/
theorem phi_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr c) from rfl, scopedRest0_eq]
  unfold scr
  iintro ⟨Hs, -, Hr⟩
  isplitl [Hs] <;> iassumption

/-- The claim after the last step gives back the semaphores at zero and the scratch buffers. -/
theorem phi_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scr c) from rfl, scopedRest0_eq, ownSems0_eq, unscopedSems0_eq]
  unfold zeros scr
  iintro ⟨⟨HB, HV, HS⟩, Hr⟩
  isplitl [HB]; · iexact HB
  isplitl [HS HV]
  · isplitl [HS] <;> iassumption
  iexact Hr

/-- The pipeline's own waits are in order with those of the kernel. -/
theorem waits : (levAts L lv : sProp 𝕄) ⊢ Pipeline.cellsWaits cfgs (dats m ρ) () 0 c :=
  Pipeline.cellsWaits_intro cfgs (dats m ρ) () 0 c fun w s t => by
    have hq : ¬ 34 ≤ ((cfg0.win w).sem s).val := by fin_cases w <;> fin_cases s <;> decide
    rcases t with ⟨_ | _, ht⟩
    · exact mayWait_zero c _ hq 0 0
    · have h := mayWait_zero (F := F) c _ hq 32 32
      rw [owing_end] at h
      exact h

/-! ## The run -/

/-- A window's array after the run. -/
def finalA (w : Fin cfg0.W) : Buf (Elt F) ((cfg0.win w).arr.view.loc (c : Thread nD τ)) := (dats m ρ 0 c).arrAt w cfg0.N

/-- On the 32 devices, for any float values, from any memory with zero counters: every weakly fair execution of @main
terminates, every device's arrays holding what the schedule says, every semaphore counter back at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owing d 0 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Scan

end
-- ==== Proof.Result.lean ====
module

public import proofs.«01_k».proof.Proof.Launch

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! What the two arrays hold at the end: the argument what it held, the result the eight blocks of `outAt`. -/

/-- The one block of a whole array starts at its origin. -/
theorem origin_x : (fun a => (win0_0.index (0 : Fin 1)) a * main_arg0.ty.shape.size a) = fun _ => 0 :=
  funext fun a => by fin_cases a <;> decide
/-- The result's window begins at the origin. -/
theorem origin_o : (fun a => (win0_1.index (0 : Fin 1)) a * main_v1.ty.shape.size a) = fun _ => 0 :=
  funext fun a => by fin_cases a <;> decide

/-- The rows a device's program reads are its argument. -/
theorem xstg_eq : xstg m ρ c = m ((c : Thread nD τ).loc main_arg0) :=
  Memref.read_access_unit_zero (Elt F) main_arg0 origin_x (fun a => by fin_cases a <;> decide) _

/-- The argument ends as it was. -/
theorem finalA_x : finalA m ρ c (0 : Fin 2) = m ((c : Thread nD τ).loc main_arg0) :=
  (dats (F := F) m ρ 0 c).arrAt_in (0 : Fin 2) rfl _

/-- The result ends at what the program left in its block. -/
theorem finalA_o : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 origin_o (fun a => by fin_cases a <;> decide) _).symm.trans h

/-- Every execution ends; then each device's result holds `outAt`, its argument what it held, and every semaphore is at zero. -/
theorem run_values : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.KernelIdeal.Scan

end
-- ==== Proof.Frames.lean ====
module

public import proofs.«01_k».proof.Defs
public import proofs.«01_k».proof.Proof.Result
public import proofs.«01_k».proof.Proof.Gen.Kernel
public import proofs.«01_k».proof.Proof.Gen.ReferenceIdeal.Run

@[expose] public section

set_option maxRecDepth 65536
set_option maxHeartbeats 2000000

noncomputable section

namespace Cert.Proof

open Idealize.ShloMosaic Idealize.ShloMosaic.TcCoe Idealize.SL.Sem Cert.KernelIdeal.Scan

/-! The three frames: every execution ends, the arguments unchanged and the semaphores at zero. -/

variable {F : FTy → Type} [FloatOps F]

/-- The kernel and its reading over exact floats have one body, -/
theorem defs₀_eq : @Cert.Kernel.defs₀ F _ _ = @Cert.KernelIdeal.defs₀ F _ _ := by
  refine congrArg Defs.onTc (funext fun l => funext fun a => ?_)
  obtain ⟨l, hl⟩ := l
  obtain rfl : l = 0 := Nat.lt_one_iff.1 hl
  rfl

/-- and one pipeline around it. -/
theorem defs_eq : @Cert.Kernel.defs F _ _ = @Cert.KernelIdeal.defs F _ _ :=
  congrArg (Pipeline.defs Cert.KernelIdeal.pcfgs) defs₀_eq

/-- The kernel's run over machine floats. -/
theorem frame_kernel : Cert.quiescent_Kernel := by
  intro m ρ _
  rw [defs_eq]
  exact (θ_run Cert.KernelIdeal.defs _ _).mono
    (fun (_ : PUnit × _) h => (⟨fun c => (h.1 c).2, h.2⟩ : (∀ c : Dev Cert.KernelIdeal.nD, _) ∧ _)) (run_values (F := Bits) m ρ)

/-- The same run over exact floats. -/
theorem frame_ideal : Cert.quiescent_KernelIdeal := fun m ρ _ =>
  (θ_run Cert.KernelIdeal.defs _ _).mono (fun _ h => ⟨fun c => (h.1 c).2, h.2⟩) (run_values (F := Ideal) m ρ)

/-- The reference's run on its one device, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Tri.lean ====
module

public import proofs.«01_k».proof.Proof.Output
public import Idealize.ShloMosaic.Lib.Pointwise
public import Idealize.ShloMosaic.Lib.WordCmp
public import Idealize.ShloMosaic.PureOps.Ideal.Laws

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix2 ix3

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! What one block of the first pass computes, over exact floats: the lower triangle of ones times the block is the prefix
sums within the block, and the carry added to every row holds the column sums of the blocks before. -/

/-- Column `j` of the rows `g`, as a sequence. -/
def col (g : S2048x1024.Idx → EReal) (j : Fin 1024) (k : ℕ) : EReal := if h : k < 2048 then g (ix2 (⟨k, h⟩ : Fin 2048) j) else 0

/-- An entry of a column inside the array. -/
theorem col_of_lt (g : S2048x1024.Idx → EReal) (j : Fin 1024) (k : Fin 2048) : col g j k.val = g (ix2 k j) := dif_pos k.isLt

/-- The triangle: one on and below the diagonal, zero above. -/
theorem tri_apply (i k : Fin 256) : k0_pay8 (F := Ideal) (ix2 i k) = if k.val ≤ i.val then 1 else 0 := by
  pointwise [k0_pay8]
  rw [WordCmp.cmpi_sge_ofNat (by omega) (by omega)]
  by_cases h : k.val ≤ i.val
  · rw [if_pos h, decide_eq_true h]
    show (((BitVec.setWidth 32 (BitVec.ofBool true)).toInt : ℝ) : EReal) = 1
    rw [show (BitVec.setWidth 32 (BitVec.ofBool true)).toInt = 1 from by decide]; norm_num
  · rw [if_neg h, decide_eq_false h]
    show (((BitVec.setWidth 32 (BitVec.ofBool false)).toInt : ℝ) : EReal) = 0
    rw [show (BitVec.setWidth 32 (BitVec.ofBool false)).toInt = 0 from by decide]; norm_num

/-- The triangle times a block: its prefix sums. -/
theorem mm_apply (B : S256x1024.Idx → EReal) (f : ℕ → EReal) (i : Fin 256) (j : Fin 1024) (hB : ∀ k : Fin 256, B (ix2 k j) = f k.val) :
    matmul (F := Ideal) (φ₁ := .bf16) (φ₂ := .bf16) dot_S256x256_S256x1024_S256x1024_1_0_0_1_n_n none k0_pay8 B (constant S256x1024 .f32 0x00000000#32) (ix2 i j)
      = ∑ t ∈ Finset.range (i.val + 1), f t := by
  pointwise
  have e : ∀ k : Fin 256, k0_pay8 (F := Ideal) (ix2 i k) * B (ix2 k j) = (fun t => if t ≤ i.val then f t else 0) k.val := fun k => by
    rw [tri_apply, hB]
    by_cases h : k.val ≤ i.val
    · rw [if_pos h, one_mul]; exact (if_pos h).symm
    · rw [if_neg h, zero_mul]; exact (if_neg h).symm
  have hi := i.isLt
  rw [Finset.sum_congr rfl fun k _ => e k, Fin.sum_univ_eq_sum_range (fun t => if t ≤ i.val then f t else 0) 256, ← Finset.sum_filter]
  refine Finset.sum_congr (Finset.ext fun t => ?_) fun _ _ => rfl
  rw [Finset.mem_filter, Finset.mem_range, Finset.mem_range]
  omega

/-- A block added to its carry. -/
theorem out_apply (a : S1x1024.Idx → EReal) (P : S256x1024.Idx → EReal) (i : Fin 256) (j : Fin 1024) :
    truncf (F := Ideal) .bf16 (addf (φ := .f32) P (broadcastTo S256x1024 a broadcasts_S1x1024_S256x1024)) bitsLt_bf16_f32 (ix2 i j)
      = P (ix2 i j) + a (ix2 0 j) := by
  pointwise

/-- The next carry: the block's last row added. -/
theorem carry_apply (a : S1x1024.Idx → EReal) (P : S256x1024.Idx → EReal) (j : Fin 1024) :
    addf (F := Ideal) (φ := .f32) a (extractStridedSlice S1x1024 ![255, 0] P slices_S256x1024_o255_0_S1x1024) (ix2 0 j)
      = a (ix2 0 j) + P (ix2 255 j) := by
  pointwise

/-- The first carry is zero. -/
theorem zero_apply (j : Fin 1024) : k0_pay9 (F := Ideal) (ix2 0 j) = 0 := by
  pointwise [k0_pay9]

/-- The column sums of a device's rows. -/
theorem sum_apply (g : S2048x1024.Idx → EReal) (j : Fin 1024) : k0_pay6 (F := Ideal) g (ix2 0 j) = ∑ k : Fin 2048, g (ix2 k j) := by
  pointwise [k0_pay6]

/-- The rows themselves. -/
theorem rows_eq (g : S2048x1024.Idx → EReal) (i : Fin 2048) (j : Fin 1024) : k0_pay7 (F := Ideal) g (ix2 i j) = g (ix2 i j) := by
  pointwise [k0_pay7]

/-- The second pass adds the offset to every row. -/
theorem add_apply (v : S1x1024.Idx → EReal) (b : S256x1024.Idx → EReal) (i : Fin 256) (j : Fin 1024) :
    k0_pay1 (F := Ideal) v b (ix2 i j) = b (ix2 i j) + v (ix2 0 j) := by
  pointwise [k0_pay1]

/-- The offset: the slots of the earlier devices summed. -/
theorem offset_apply (c : Dev nD) (V : S32x1x1024.Idx → EReal) (j : Fin 1024) :
    k0_pay32 (F := Ideal) (pos c) V (ix2 0 j) = ∑ i : Fin 32, if i.val < c.val then V (ix3 i 0 j) else 0 := by
  pointwise [k0_pay32]
  refine Finset.sum_congr rfl fun i _ => ?_
  have pos_key : ∀ i d : Fin 32, IntOp.cmpi .slt (BitVec.ofNat 32 i.val) (pos (⟨d.val, d.isLt⟩ : Dev nD)) = BitVec.ofBool (decide (i.val < d.val)) := by decide
  rw [show IntOp.cmpi .slt (BitVec.ofNat 32 i.val) (pos c) = BitVec.ofBool (decide (i.val < c.val)) from pos_key i ⟨c.val, c.isLt⟩]
  by_cases h : i.val < c.val
  · rw [if_pos h, decide_eq_true h]; rfl
  · rw [if_neg h, decide_eq_false h]; rfl

end Cert.KernelIdeal.Scan

end
-- ==== Proof.Prefix.lean ====
module

public import proofs.«01_k».proof.Proof.Tri
public import Idealize.ShloMosaic.Lib.Pointwise.IndexBridge

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix2 ix3

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! What the first pass leaves, over exact floats: row `i` of block `b` holds the sum of the device's rows up to that row. -/

/-- A block of the rows. -/
theorem blk_col (g : S2048x1024.Idx → EReal) (b : Fin 8) (k : Fin 256) (j : Fin 1024) :
    blkOf (k0_pay7 (F := Ideal) g) b (ix2 k j) = col g j (256 * b.val + k.val) := by
  have hb := b.isLt
  have hk := k.isLt
  have e : (blkR b).emb (ix2 k j) = ix2 (⟨256 * b.val + k.val, by omega⟩ : Fin 2048) j := by
    funext a; apply Fin.ext
    match a with
    | ⟨0, _⟩ => exact emb_val0 b (ix2 k j)
    | ⟨1, _⟩ => exact emb_val1 b (ix2 k j)
  unfold blkOf
  rw [e, rows_eq]
  exact (col_of_lt g j ⟨256 * b.val + k.val, by omega⟩).symm

/-- The triangle times block `b` of the rows `g`. -/
abbrev within (g : S2048x1024.Idx → EReal) (b : Fin 8) : S256x1024.Idx → EReal :=
  matmul (F := Ideal) (φ₁ := .bf16) (φ₂ := .bf16) dot_S256x256_S256x1024_S256x1024_1_0_0_1_n_n none k0_pay8 (blkOf (k0_pay7 (F := Ideal) g) b)
    (constant S256x1024 .f32 0x00000000#32)

/-- It is the prefix sums within the block. -/
theorem within_apply (g : S2048x1024.Idx → EReal) (b : Fin 8) (i : Fin 256) (j : Fin 1024) :
    within g b (ix2 i j) = ∑ t ∈ Finset.range (i.val + 1), col g j (256 * b.val + t) :=
  mm_apply (blkOf (k0_pay7 (F := Ideal) g) b) (fun t => col g j (256 * b.val + t)) i j fun k => blk_col g b k j

/-- A carry into block `b`: the column sums of the blocks before it. -/
def Carry (g : S2048x1024.Idx → EReal) (b : ℕ) (a : S1x1024.Idx → EReal) : Prop :=
  ∀ j : Fin 1024, a (ix2 0 j) = ∑ t ∈ Finset.range (256 * b), col g j t

/-- The first carry. -/
theorem carry_zero (g : S2048x1024.Idx → EReal) : Carry g 0 (k0_pay9 (F := Ideal)) := fun j => by
  rw [zero_apply]; rfl

/-- From a carry the next. -/
theorem carry_next {g : S2048x1024.Idx → EReal} (b : Fin 8) {a : S1x1024.Idx → EReal} (h : Carry g b.val a) :
    Carry g (b.val + 1) (addf (F := Ideal) (φ := .f32) a (extractStridedSlice S1x1024 ![255, 0] (within g b) slices_S256x1024_o255_0_S1x1024)) := fun j => by
  rw [carry_apply, h j, within_apply, show 256 * (b.val + 1) = 256 * b.val + 256 from by omega, Finset.sum_range_add _ (256 * b.val) 256]
  rfl

/-- From a carry the block's rows. -/
theorem carry_out {g : S2048x1024.Idx → EReal} (b : Fin 8) {a : S1x1024.Idx → EReal} (h : Carry g b.val a) (i : Fin 256) (j : Fin 1024) :
    truncf (F := Ideal) .bf16 (addf (φ := .f32) (within g b) (broadcastTo S256x1024 a broadcasts_S1x1024_S256x1024)) bitsLt_bf16_f32 (ix2 i j)
      = ∑ t ∈ Finset.range (256 * b.val + i.val + 1), col g j t := by
  rw [out_apply, h j, within_apply, show 256 * b.val + i.val + 1 = 256 * b.val + (i.val + 1) from by omega,
    Finset.sum_range_add _ (256 * b.val) (i.val + 1), add_comm]

/-- The first pass's blocks hold the sums of the rows up to each row. -/
theorem pre_apply (g : S2048x1024.Idx → EReal) (b : Fin 8) (i : Fin 256) (j : Fin 1024) :
    pre (F := Ideal) g b (ix2 i j) = ∑ t ∈ Finset.range (256 * b.val + i.val + 1), col g j t := by
  have c0 := carry_zero g
  have c1 := carry_next 0 c0
  have c2 := carry_next 1 c1
  have c3 := carry_next 2 c2
  have c4 := carry_next 3 c3
  have c5 := carry_next 4 c4
  have c6 := carry_next 5 c5
  have c7 := carry_next 6 c6
  fin_cases b
  · exact carry_out 0 c0 i j
  · exact carry_out 1 c1 i j
  · exact carry_out 2 c2 i j
  · exact carry_out 3 c3 i j
  · exact carry_out 4 c4 i j
  · exact carry_out 5 c5 i j
  · exact carry_out 6 c6 i j
  · exact carry_out 7 c7 i j

/-- The column sums of a device's rows. -/
theorem total_apply (m : (ℓ : Loc nD τ sig) → Buf (Elt Ideal) ℓ) (c : Dev nD) (j : Fin 1024) :
    (total (F := Ideal) m ρ c (ix2 0 j) : EReal) = ∑ t ∈ Finset.range 2048, col (xstg m ρ c) j t := by
  unfold total
  rw [sum_apply, Finset.sum_range]
  show @Eq EReal _ _
  exact Finset.sum_congr rfl fun k _ => (col_of_lt _ j k).symm

/-- The column sums of the devices before `c`; `f i` is the column of device `i`. -/
theorem off_apply (m : (ℓ : Loc nD τ sig) → Buf (Elt Ideal) ℓ) (c : Dev nD) (j : Fin 1024) (f : ℕ → ℕ → EReal)
    (hf : ∀ i : Dev nD, ∀ t < 2048, col (xstg m ρ i) j t = f i.val t) :
    (offset (F := Ideal) m ρ c (ix2 0 j) : EReal) = ∑ i ∈ Finset.range c.val, ∑ t ∈ Finset.range 2048, f i t := by
  have hc : c.val < 32 := c.isLt
  have e : ∀ i : Fin 32, (if i.val < c.val then (land (F := Ideal) m ρ (ix3 i 0 j) : EReal) else 0)
      = (fun i => if i < c.val then ∑ t ∈ Finset.range 2048, f i t else 0) i.val := fun i => by
    show _ = if i.val < c.val then ∑ t ∈ Finset.range 2048, f i.val t else 0
    refine if_congr Iff.rfl ?_ rfl
    refine Eq.trans (b := (total (F := Ideal) m ρ (⟨i.val, i.isLt⟩ : Dev nD) (ix2 0 j) : EReal)) ?_ ?_
    · unfold land
      rw [ix2_eq_valueIdx]; rfl
    · rw [total_apply]
      show @Eq EReal _ _
      exact Finset.sum_congr rfl fun t ht => hf ⟨i.val, i.isLt⟩ t (Finset.mem_range.1 ht)
  unfold offset
  rw [offset_apply, Finset.sum_congr rfl fun i _ => e i,
    Fin.sum_univ_eq_sum_range (fun i => if i < c.val then ∑ t ∈ Finset.range 2048, f i t else 0) 32, ← Finset.sum_filter]
  refine Finset.sum_congr (Finset.ext fun t => ?_) fun _ _ => rfl
  rw [Finset.mem_filter, Finset.mem_range, Finset.mem_range]
  omega

/-- The array of a device at the end, row by row: the rows of the earlier devices, then its own up to that row. -/
theorem outAt_apply (m : (ℓ : Loc nD τ sig) → Buf (Elt Ideal) ℓ) (c : Dev nD) (r : Fin 2048) (j : Fin 1024) (f : ℕ → ℕ → EReal)
    (hf : ∀ i : Dev nD, ∀ t < 2048, col (xstg m ρ i) j t = f i.val t) :
    (outAt (F := Ideal) m ρ c (ix2 r j) : EReal)
      = ∑ i ∈ Finset.range c.val, ∑ t ∈ Finset.range 2048, f i t + ∑ t ∈ Finset.range (r.val + 1), f c.val t := by
  have hr := r.isLt
  have hl : blkLoc (ix2 r j) = ix2 (⟨r.val % 256, Nat.mod_lt _ (by omega)⟩ : Fin 256) j := by
    have h := emb_blkLoc (ix2 r j)
    refine (blkR (blkNo (ix2 r j))).emb.injective (h.trans ?_)
    funext a; apply Fin.ext
    match a with
    | ⟨0, _⟩ => exact (Nat.div_add_mod r.val 256).symm.trans (emb_val0 (blkNo (ix2 r j)) (ix2 (⟨r.val % 256, Nat.mod_lt _ (by omega)⟩ : Fin 256) j)).symm
    | ⟨1, _⟩ => exact (emb_val1 (blkNo (ix2 r j)) (ix2 (⟨r.val % 256, Nat.mod_lt _ (by omega)⟩ : Fin 256) j)).symm
  have hp : pre (F := Ideal) (xstg m ρ c) (blkNo (ix2 r j)) (blkLoc (ix2 r j)) = ∑ t ∈ Finset.range (r.val + 1), f c.val t := by
    rw [hl, pre_apply]
    show ∑ t ∈ Finset.range (256 * (r.val / 256) + r.val % 256 + 1), _ = _
    rw [Nat.div_add_mod]
    exact Finset.sum_congr rfl fun t ht => hf c t (by have := Finset.mem_range.1 ht; omega)
  unfold outAt asm finish
  by_cases h : 0 < c.val
  · rw [if_pos h]
    unfold addOff
    rw [← hp, hl, add_apply, off_apply ρ m c j f hf, add_comm]
  · rw [if_neg h, hp, show c.val = 0 from by omega, Finset.range_zero, Finset.sum_empty, zero_add]

end Cert.KernelIdeal.Scan

end
-- ==== Proof.Running.lean ====
module

public import proofs.«01_k».proof.Proof.Output
public import Idealize.ShloMosaic.PureOps.Ideal.Laws
public import Idealize.ShloMosaic.Lib.Pointwise

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix2 ix3

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The host's running sum down the columns of an array, over exact floats: a window as tall as the array, padded above by
one row less, holds at row `r` the sum of the rows up to `r`. -/

/-- A fold of additions is the start plus the sum. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- Over the window's positions, those inside the array are the rows up to `r`. -/
theorem window_sum (f : ℕ → EReal) (M r : ℕ) (h : r ≤ M) :
    ∑ k ∈ Finset.range (M + 1), (if M ≤ r + k then f (r + k - M) else 0) = ∑ k ∈ Finset.range (r + 1), f k := by
  obtain ⟨d, rfl⟩ := Nat.exists_eq_add_of_le h
  rw [show r + d + 1 = d + (r + 1) from by omega, Finset.sum_range_add]
  rw [Finset.sum_eq_zero fun k hk => if_neg (by have := Finset.mem_range.1 hk; omega), zero_add]
  refine Finset.sum_congr rfl fun k hk => ?_
  rw [if_pos (by omega)]
  congr 1; omega

/-- The host's running sum at row `r` of column `j`. -/
theorem cumsum_apply {N C M : ℕ} (hN : M + 1 = N) (x : (⟨2, ![N, C]⟩ : Shape).Idx → EReal) (f : ℕ → EReal) (r : Fin N) (j : Fin C)
    (hx : ∀ k : Fin N, x (ix2 k j) = f k.val)
    (h : (⟨2, ![N, C]⟩ : Shape).ReduceWindows (![N, 1] : Fin 2 → ℕ) ![1, 1] ![M, 0] ![0, 0] ⟨2, ![N, C]⟩) :
    Ideal.hostReduceWindowAdd (![N, 1] : Fin 2 → ℕ) ![1, 1] ![M, 0] ![0, 0] h x 0 (ix2 r j) = ∑ k ∈ Finset.range (r.val + 1), f k := by
  subst hN
  have hr := r.isLt
  have hc := j.isLt
  have hn : (⟨2, ![M + 1, 1]⟩ : Shape).numel = M + 1 := by
    rw [Shape.numel]; simp [Fin.prod_univ_two]
  have hw : ∀ n : Fin (⟨2, ![M + 1, 1]⟩ : Shape).numel, ((⟨2, ![M + 1, 1]⟩ : Shape).rowMajor.symm n 0).val = n.val
      ∧ ((⟨2, ![M + 1, 1]⟩ : Shape).rowMajor.symm n 1).val = 0 := fun n => by
    have e : ((⟨2, ![M + 1, 1]⟩ : Shape).rowMajor ((⟨2, ![M + 1, 1]⟩ : Shape).rowMajor.symm n)).val = n.val := by rw [Equiv.apply_symm_apply]
    rw [Shape.rowMajor_val_two] at e
    have h1 : ((⟨2, ![M + 1, 1]⟩ : Shape).rowMajor.symm n 1).val < 1 := ((⟨2, ![M + 1, 1]⟩ : Shape).rowMajor.symm n 1).isLt
    change ((⟨2, ![M + 1, 1]⟩ : Shape).rowMajor.symm n 0).val * 1 + ((⟨2, ![M + 1, 1]⟩ : Shape).rowMajor.symm n 1).val = n.val at e
    omega
  rw [← window_sum f M r.val (by omega)]
  unfold Ideal.hostReduceWindowAdd Host.reduceWindow
  dsimp only
  rw [foldl_add, zero_add, ← Fin.sum_univ_def]
  refine Eq.trans ?_ ((congrArg (fun K => ∑ k ∈ Finset.range K, (if M ≤ r.val + k then f (r.val + k - M) else 0)) hn.symm).trans (Finset.sum_range _)).symm
  refine Finset.sum_congr rfl fun n _ => ?_
  obtain ⟨w0, w1⟩ := hw n
  have hnl : n.val < M + 1 := Nat.lt_of_lt_of_eq n.isLt hn
  split
  · next hin =>
    have h0 := hin 0
    change M ≤ r.val * 1 + ((⟨2, ![M + 1, 1]⟩ : Shape).rowMajor.symm n 0).val ∧ _ at h0
    rw [w0] at h0
    rw [if_pos (by omega)]
    refine (congrArg x (funext fun a => Fin.ext ?_)).trans (hx ⟨r.val + n.val - M, by omega⟩)
    match a with
    | ⟨0, _⟩ =>
      show r.val * 1 + ((⟨2, ![M + 1, 1]⟩ : Shape).rowMajor.symm n 0).val - M = r.val + n.val - M
      rw [w0, Nat.mul_one]
    | ⟨1, _⟩ =>
      show j.val * 1 + ((⟨2, ![M + 1, 1]⟩ : Shape).rowMajor.symm n 1).val - 0 = j.val
      rw [w1]; omega
  · next hin =>
    rw [if_neg fun hle => hin fun a => ?_]
    match a with
    | ⟨0, _⟩ =>
      show M ≤ r.val * 1 + ((⟨2, ![M + 1, 1]⟩ : Shape).rowMajor.symm n 0).val
        ∧ r.val * 1 + ((⟨2, ![M + 1, 1]⟩ : Shape).rowMajor.symm n 0).val - M < M + 1
      rw [w0]; omega
    | ⟨1, _⟩ =>
      show 0 ≤ j.val * 1 + ((⟨2, ![M + 1, 1]⟩ : Shape).rowMajor.symm n 1).val
        ∧ j.val * 1 + ((⟨2, ![M + 1, 1]⟩ : Shape).rowMajor.symm n 1).val - 0 < C
      rw [w1]; omega

end Cert.KernelIdeal.Scan

end
-- ==== Proof.Equation.lean ====
module

public import proofs.«01_k».proof.Proof.Prefix
public import proofs.«01_k».proof.Proof.Running
public import proofs.«01_k».proof.Proof.Result
public import Idealize.ShloMosaic.Lib.Layout

@[expose] public section

set_option maxRecDepth 65536
set_option maxHeartbeats 2000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix2 ix3 eq_ix2

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! The equation: the blocks of the devices together are the running sum of the whole array. -/

/-- A sum over the rows of `c` devices of 2048 rows each, device by device. -/
theorem sum_devices (f : ℕ → EReal) (c : ℕ) :
    ∑ i ∈ Finset.range c, ∑ t ∈ Finset.range 2048, f (2048 * i + t) = ∑ t ∈ Finset.range (2048 * c), f t := by
  induction c with
  | zero => rfl
  | succ c ih => rw [Finset.sum_range_succ, ih, show 2048 * (c + 1) = 2048 * c + 2048 from by omega, Finset.sum_range_add _ (2048 * c) 2048]

/-- The whole array's column `j`, as a sequence. -/
def wcol (x : (⟨2, ![65536, 1024]⟩ : Shape).Idx → EReal) (j : Fin 1024) (k : ℕ) : EReal := if h : k < 65536 then x (ix2 (⟨k, h⟩ : Fin 65536) j) else 0

/-- Where device `c`'s row `r` lies in the whole array. -/
theorem block_ix (h : Layout.Tiles ⟨2, ![2048, 1024]⟩ ⟨2, ![65536, 1024]⟩ 0 32) (c : Dev nD) (r : Fin 2048) (j : Fin 1024) (hr : 2048 * c.val + r.val < 65536) :
    h.idx c (ix2 r j) = ix2 (⟨2048 * c.val + r.val, hr⟩ : Fin 65536) j := by
  funext a; apply Fin.ext
  rw [Layout.Tiles.idx_val]
  match a with
  | ⟨0, _⟩ => show c.val * 2048 + r.val = 2048 * c.val + r.val; omega
  | ⟨1, _⟩ => rfl

/-- Device `c`'s result is block `c` of the running sum of the whole array whose blocks the devices hold. -/
theorem outAt_block (m : (ℓ : Loc nD τ sig) → Buf (Elt Ideal) ℓ) (x : (⟨2, ![65536, 1024]⟩ : Shape).Idx → EReal)
    (tiles : Layout.Tiles ⟨2, ![2048, 1024]⟩ ⟨2, ![65536, 1024]⟩ 0 32)
    (hx : ∀ c : Dev nD, m ((c : Thread nD τ).loc main_arg0) = Layout.block ⟨2, ![2048, 1024]⟩ ⟨2, ![65536, 1024]⟩ 0 32 c x tiles)
    (h : (⟨2, ![65536, 1024]⟩ : Shape).ReduceWindows (![65536, 1] : Fin 2 → ℕ) ![1, 1] ![65535, 0] ![0, 0] ⟨2, ![65536, 1024]⟩) (c : Dev nD) :
    outAt (F := Ideal) m ρ c = Layout.block ⟨2, ![2048, 1024]⟩ ⟨2, ![65536, 1024]⟩ 0 32 c
      (Ideal.hostReduceWindowAdd (![65536, 1] : Fin 2 → ℕ) ![1, 1] ![65535, 0] ![0, 0] h x 0) tiles := by
  have hf : ∀ (j : Fin 1024) (i : Dev nD), ∀ t < 2048, col (xstg m ρ i) j t = wcol x j (2048 * i.val + t) := fun j i t ht => by
    have hi : i.val < 32 := i.isLt
    rw [xstg_eq, hx i]
    unfold col wcol
    rw [dif_pos ht, dif_pos (show 2048 * i.val + t < 65536 by omega), Layout.block_apply, block_ix tiles i ⟨t, ht⟩ j (show 2048 * i.val + t < 65536 by omega)]
  have hc : c.val < 32 := c.isLt
  funext i
  obtain ⟨r, j, rfl⟩ : ∃ (r : Fin 2048) (j : Fin 1024), i = ix2 r j := ⟨i 0, i 1, eq_ix2 i⟩
  have hr := r.isLt
  rw [Layout.block_apply, block_ix tiles c r j (by omega)]
  rw [cumsum_apply (N := 65536) (M := 65535) rfl x (wcol x j) _ j (fun k => by
    unfold wcol; rw [dif_pos (show k.val < 65536 from k.isLt)])]
  refine (outAt_apply ρ m c r j (fun i t => wcol x j (2048 * i + t)) (hf j)).trans ?_
  show @Eq EReal _ _
  rw [sum_devices, show (⟨2048 * c.val + r.val, by omega⟩ : Fin 65536).val + 1 = 2048 * c.val + (r.val + 1) from by show 2048 * c.val + r.val + 1 = _; omega,
    Finset.sum_range_add _ (2048 * c.val) (r.val + 1)]

end Cert.KernelIdeal.Scan

end
-- ==== Proof.lean ====
/- The proof of every claim about the sharded running sum: the three frames (Proof/Frames.lean), the idealization, which
   rewrote nothing, and the equation with the reference (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.KernelIdeal.Scan

set_option maxRecDepth 65536
set_option maxHeartbeats 2000000

/-- The bf16 word the reference's running sum starts from is zero. -/
theorem start_zero (i : (⟨0, ![]⟩ : Shape).Idx) :
    broadcastInDim Cert.ReferenceIdeal.S_ ![] Cert.ReferenceIdeal.Gen.bcast_S_S_ (constant (F := Ideal) Cert.ReferenceIdeal.S_ .bf16 0x0000#16) i = (0 : EReal) := by
  show Ideal.ofBits .bf16 0x0000#16 = 0
  simp [Ideal.ofBits, Ideal.ieee]

/-- Over exact floats each device ends with its block of the reference's running sum. -/
theorem algebraic : Cert.algebraic_KernelIdeal_ReferenceIdeal := by
  intro m ρ m' ρ' _ hx
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (run_values (F := Ideal) m ρ)
  refine (outAt_block ρ m _ _ hx Cert.ReferenceIdeal.Gen.reduceWindows_S65536x1024_S65536x1024_w65536s1p65535_0_w1s1p0_0 c).trans ?_
  unfold Host.reduceWindowAdd
  rw [start_zero]
  rfl

/-- All the claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
